-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0xFF61B1E6#32 ⊥
  ∧ IdealRules.named_const.Statement Cert.KernelIdeal.κ "inv_n" .f32 0x36AC7692#32 ((1 / 194560 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x64x24320 : Shape := ⟨3, ![8, 64, 24320]⟩
abbrev S8x24320 : Shape := ⟨2, ![8, 24320]⟩
abbrev S128x4x1 : Shape := ⟨3, ![128, 4, 1]⟩
abbrev S128 : Shape := ⟨1, ![128]⟩
abbrev S_ : Shape := ⟨0, ![]⟩

class Facts : Prop where
  bcast_S_S8x64x24320 : S_.BroadcastsInDim S8x64x24320 (![] : Fin 0 → Fin S8x64x24320.rank)
  bcast_S_S128x4x1 : S_.BroadcastsInDim S128x4x1 (![] : Fin 0 → Fin S128x4x1.rank)
  bcast_S_S128 : S_.BroadcastsInDim S128 (![] : Fin 0 → Fin S128.rank)

variable [Facts]

def fn {F : FTy → Type} [FloatOps F] (main_arg0 : FVec F S8x64x24320 .f32) (main_arg1 : IVec S8x24320 32) (main_arg2 : FVec F S128x4x1 .f32) (main_arg3 : FVec F S128 .f32) (main_arg4 : FVec F S128 .f32) (main_arg5 : FVec F S128 .f32) : IVec S8x64x24320 1 × IVec S128x4x1 1 × IVec S128 1 × IVec S128 1 :=
  let main_v0 : FVec F S8x64x24320 .f32 := Host.absf main_arg0
  let main_cst : FVec F S_ .f32 := constant S_ .f32 0x7F800000#32
  let main_v1 : FVec F S8x64x24320 .f32 := broadcastInDim S8x64x24320 ![] bcast_S_S8x64x24320 main_cst
  let main_v2 : IVec S8x64x24320 1 := cmpf .olt main_v0 main_v1
  let main_v3 : FVec F S128x4x1 .f32 := Host.absf main_arg2
  let main_cst_0 : FVec F S_ .f32 := constant S_ .f32 0x7F800000#32
  let main_v4 : FVec F S128x4x1 .f32 := broadcastInDim S128x4x1 ![] bcast_S_S128x4x1 main_cst_0
  let main_v5 : IVec S128x4x1 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_cst_2 : FVec F S_ .f32 := constant S_ .f32 0x00000000#32
  let main_v9 : FVec F S128 .f32 := broadcastInDim S128 ![] bcast_S_S128 main_cst_2
  let main_v10 : IVec S128 1 := cmpf .oge main_arg4 main_v9
  let main_cst_3 : FVec F S_ .f32 := constant S_ .f32 0x7F800000#32
  let main_v11 : FVec F S128 .f32 := broadcastInDim S128 ![] bcast_S_S128 main_cst_3
  let main_v12 : IVec S128 1 := cmpf .olt main_arg4 main_v11
  let main_v13 : IVec S128 1 := andi main_v10 main_v12
  (main_v2, main_v5, main_v8, main_v13)
-- ==== Kernel.lean ====
abbrev S8x64x24320 : Shape := ⟨3, ![8, 64, 24320]⟩
abbrev S8x24320 : Shape := ⟨2, ![8, 24320]⟩
abbrev S128x4x1 : Shape := ⟨3, ![128, 4, 1]⟩
abbrev S128 : Shape := ⟨1, ![128]⟩
abbrev S128x4 : Shape := ⟨2, ![128, 4]⟩
abbrev S16x8x4 : Shape := ⟨3, ![16, 8, 4]⟩
abbrev S16x2x8 : Shape := ⟨3, ![16, 2, 8]⟩
abbrev S8x16x8x16 : Shape := ⟨4, ![8, 16, 8, 16]⟩
abbrev S8x128x16 : Shape := ⟨3, ![8, 128, 16]⟩
abbrev S128x1 : Shape := ⟨2, ![128, 1]⟩
abbrev S128x2 : Shape := ⟨2, ![128, 2]⟩
abbrev S16x1x8 : Shape := ⟨3, ![16, 1, 8]⟩
abbrev S16x8 : Shape := ⟨2, ![16, 8]⟩
abbrev S24320 : Shape := ⟨1, ![24320]⟩
abbrev S1x24320 : Shape := ⟨2, ![1, 24320]⟩
abbrev S_ : Shape := ⟨0, ![]⟩
abbrev S16 : Shape := ⟨1, ![16]⟩
abbrev S16x1 : Shape := ⟨2, ![16, 1]⟩
abbrev S16x24320 : Shape := ⟨2, ![16, 24320]⟩
abbrev S8x128x24320 : Shape := ⟨3, ![8, 128, 24320]⟩
abbrev S1x64x24320 : Shape := ⟨3, ![1, 64, 24320]⟩
abbrev S1x16x8x16 : Shape := ⟨4, ![1, 16, 8, 16]⟩
abbrev S4x64x380 : Shape := ⟨3, ![4, 64, 380]⟩
abbrev S64x380 : Shape := ⟨2, ![64, 380]⟩
abbrev S16x380 : Shape := ⟨2, ![16, 380]⟩
abbrev S1x64x380 : Shape := ⟨3, ![1, 64, 380]⟩
abbrev S1x1x1 : Shape := ⟨3, ![1, 1, 1]⟩
abbrev S1 : Shape := ⟨1, ![1]⟩
abbrev S380 : Shape := ⟨1, ![380]⟩
abbrev S1x380 : Shape := ⟨2, ![1, 380]⟩
abbrev S1x1x1x16 : Shape := ⟨4, ![1, 1, 1, 16]⟩
abbrev S8 : Shape := ⟨1, ![8]⟩
abbrev S1x8 : Shape := ⟨2, ![1, 8]⟩
abbrev S2x8 : Shape := ⟨2, ![2, 8]⟩
abbrev S1x2x8 : Shape := ⟨3, ![1, 2, 8]⟩
abbrev S1x128x16 : Shape := ⟨3, ![1, 128, 16]⟩
abbrev S1x128x24320 : Shape := ⟨3, ![1, 128, 24320]⟩
abbrev S128x16 : Shape := ⟨2, ![128, 16]⟩
abbrev S128x24320 : Shape := ⟨2, ![128, 24320]⟩

abbrev nBuf : Space → Nat
  | .hbm => 48
  | .vmem => 15
  | .smem => 1
  | _ => 0

abbrev bufTy : (tb : Table) → Fin (tcTables nBuf tb) → BufTy
  | .hbm, ⟨0, _⟩ => ⟨S8x64x24320, .f32⟩
  | .hbm, ⟨1, _⟩ => ⟨S8x24320, .i32⟩
  | .hbm, ⟨2, _⟩ => ⟨S128x4x1, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x4, .f32⟩
  | .hbm, ⟨7, _⟩ => ⟨S16x8x4, .f32⟩
  | .hbm, ⟨8, _⟩ => ⟨S16x2x8, .f32⟩
  | .hbm, ⟨9, _⟩ => ⟨S8x16x8x16, .f32⟩
  | .hbm, ⟨10, _⟩ => ⟨S8x128x16, .f32⟩
  | .hbm, ⟨11, _⟩ => ⟨S128x1, .f32⟩
  | .hbm, ⟨12, _⟩ => ⟨S128x1, .f32⟩
  | .hbm, ⟨13, _⟩ => ⟨S128x2, .f32⟩
  | .hbm, ⟨14, _⟩ => ⟨S128x1, .f32⟩
  | .hbm, ⟨15, _⟩ => ⟨S16x1x8, .f32⟩
  | .hbm, ⟨16, _⟩ => ⟨S16x8, .f32⟩
  | .hbm, ⟨17, _⟩ => ⟨S128x1, .f32⟩
  | .hbm, ⟨18, _⟩ => ⟨S16x1x8, .f32⟩
  | .hbm, ⟨19, _⟩ => ⟨S16x8, .f32⟩
  | .hbm, ⟨20, _⟩ => ⟨S128x1, .f32⟩
  | .hbm, ⟨21, _⟩ => ⟨S24320, .i32⟩
  | .hbm, ⟨22, _⟩ => ⟨S1x24320, .i32⟩
  | .hbm, ⟨23, _⟩ => ⟨S_, .i32⟩
  | .hbm, ⟨24, _⟩ => ⟨S_, .i32⟩
  | .hbm, ⟨25, _⟩ => ⟨S1x24320, .i32⟩
  | .hbm, ⟨26, _⟩ => ⟨S1x24320, .i32⟩
  | .hbm, ⟨27, _⟩ => ⟨S1x24320, .i32⟩
  | .hbm, ⟨28, _⟩ => ⟨S_, .i32⟩
  | .hbm, ⟨29, _⟩ => ⟨S1x24320, .i32⟩
  | .hbm, ⟨30, _⟩ => ⟨S1x24320, .i1⟩
  | .hbm, ⟨31, _⟩ => ⟨S1x24320, .i32⟩
  | .hbm, ⟨32, _⟩ => ⟨S1x24320, .i32⟩
  | .hbm, ⟨33, _⟩ => ⟨S_, .i32⟩
  | .hbm, ⟨34, _⟩ => ⟨S1x24320, .i32⟩
  | .hbm, ⟨35, _⟩ => ⟨S1x24320, .i1⟩
  | .hbm, ⟨36, _⟩ => ⟨S1x24320, .i1⟩
  | .hbm, ⟨37, _⟩ => ⟨S_, .i32⟩
  | .hbm, ⟨38, _⟩ => ⟨S1x24320, .i32⟩
  | .hbm, ⟨39, _⟩ => ⟨S1x24320, .i32⟩
  | .hbm, ⟨40, _⟩ => ⟨S1x24320, .i32⟩
  | .hbm, ⟨41, _⟩ => ⟨S16, .i32⟩
  | .hbm, ⟨42, _⟩ => ⟨S16x1, .i32⟩
  | .hbm, ⟨43, _⟩ => ⟨S16x24320, .i32⟩
  | .hbm, ⟨44, _⟩ => ⟨S16x24320, .i32⟩
  | .hbm, ⟨45, _⟩ => ⟨S16x24320, .i1⟩
  | .hbm, ⟨46, _⟩ => ⟨S16x24320, .f32⟩
  | .hbm, ⟨47, _⟩ => ⟨S8x128x24320, .f32⟩
  | .local _ .vmem, ⟨0, _⟩ => ⟨S1x64x24320, .f32⟩
  | .local _ .vmem, ⟨1, _⟩ => ⟨S1x64x24320, .f32⟩
  | .local _ .vmem, ⟨2, _⟩ => ⟨S16x2x8, .f32⟩
  | .local _ .vmem, ⟨3, _⟩ => ⟨S1x16x8x16, .f32⟩
  | .local _ .vmem, ⟨4, _⟩ => ⟨S1x16x8x16, .f32⟩
  | .local _ .vmem, ⟨5, _⟩ => ⟨S4x64x380, .f32⟩
  | .local _ .vmem, ⟨6, _⟩ => ⟨S128x1, .f32⟩
  | .local _ .vmem, ⟨7, _⟩ => ⟨S128x1, .f32⟩
  | .local _ .vmem, ⟨8, _⟩ => ⟨S1x128x16, .f32⟩
  | .local _ .vmem, ⟨9, _⟩ => ⟨S1x128x16, .f32⟩
  | .local _ .vmem, ⟨10, _⟩ => ⟨S128x2, .f32⟩
  | .local _ .vmem, ⟨11, _⟩ => ⟨S128x1, .f32⟩
  | .local _ .vmem, ⟨12, _⟩ => ⟨S16x24320, .f32⟩
  | .local _ .vmem, ⟨13, _⟩ => ⟨S1x128x24320, .f32⟩
  | .local _ .vmem, ⟨14, _⟩ => ⟨S1x128x24320, .f32⟩
  | .local _ .smem, ⟨0, _⟩ => ⟨S16x8x4, .f32⟩
  | _, _ => ⟨S8x64x24320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2_0 : Ref sig .tc := ⟨.hbm, 8, rfl⟩
abbrev main_call0_v2_1 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_c : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_c : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_c_0 : Ref sig .tc := ⟨.hbm, 37, rfl⟩
abbrev main_call0_call0_v12 : Ref sig .tc := ⟨.hbm, 38, rfl⟩
abbrev main_call0_call0_v13 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_v0 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_332 : BitVec 32 := 0#32
  let v541 : BitVec 1 := Scalar.cmpi .eq arg0 c0_i32_332
  let v542 : BitVec 32 := Scalar.extui v541
  let c0_i32_333 : BitVec 32 := 0#32
  let v543 : BitVec 1 := Scalar.cmpi .ne v542 c0_i32_333
  v543

def k0_cond2 (i : grid0.Coords) : BitVec 1 :=
  let arg0 : BitVec 32 := BitVec.ofNat 32 (i 0).val
  let c0_i32_334 : BitVec 32 := 0#32
  let v544 : BitVec 1 := Scalar.cmpi .ne arg0 c0_i32_334
  let v545 : BitVec 32 := Scalar.extui v544
  let c0_i32_335 : BitVec 32 := 0#32
  let v546 : BitVec 1 := Scalar.cmpi .ne v545 c0_i32_335
  v546

def k0_cond3 (i : grid0.Coords) : BitVec 1 :=
  let arg0 : BitVec 32 := BitVec.ofNat 32 (i 0).val
  let c0_i32_660 : BitVec 32 := 0#32
  let v1020 : BitVec 1 := Scalar.cmpi .eq arg0 c0_i32_660
  let v1021 : BitVec 32 := Scalar.extui v1020
  let c0_i32_661 : BitVec 32 := 0#32
  let v1022 : BitVec 1 := Scalar.cmpi .ne v1021 c0_i32_661
  v1022

def k0_cond4 (i : grid0.Coords) : BitVec 1 :=
  let arg0 : BitVec 32 := BitVec.ofNat 32 (i 0).val
  let c0_i32_662 : BitVec 32 := 0#32
  let v1023 : BitVec 1 := Scalar.cmpi .ne arg0 c0_i32_662
  let v1024 : BitVec 32 := Scalar.extui v1023
  let c0_i32_663 : BitVec 32 := 0#32
  let v1025 : BitVec 1 := Scalar.cmpi .ne v1024 c0_i32_663
  v1025

def k0_cond5 (i : grid0.Coords) : BitVec 1 :=
  let arg0 : BitVec 32 := BitVec.ofNat 32 (i 0).val
  let c0_i32_988 : BitVec 32 := 0#32
  let v1499 : BitVec 1 := Scalar.cmpi .eq arg0 c0_i32_988
  let v1500 : BitVec 32 := Scalar.extui v1499
  let c0_i32_989 : BitVec 32 := 0#32
  let v1501 : BitVec 1 := Scalar.cmpi .ne v1500 c0_i32_989
  v1501

def k0_cond6 (i : grid0.Coords) : BitVec 1 :=
  let arg0 : BitVec 32 := BitVec.ofNat 32 (i 0).val
  let c0_i32_990 : BitVec 32 := 0#32
  let v1502 : BitVec 1 := Scalar.cmpi .ne arg0 c0_i32_990
  let v1503 : BitVec 32 := Scalar.extui v1502
  let c0_i32_991 : BitVec 32 := 0#32
  let v1504 : BitVec 1 := Scalar.cmpi .ne v1503 c0_i32_991
  v1504

def k0_cond7 (i : grid0.Coords) : BitVec 1 :=
  let arg0 : BitVec 32 := BitVec.ofNat 32 (i 0).val
  let c0_i32_1316 : BitVec 32 := 0#32
  let v1978 : BitVec 1 := Scalar.cmpi .eq arg0 c0_i32_1316
  let v1979 : BitVec 32 := Scalar.extui v1978
  let c0_i32_1317 : BitVec 32 := 0#32
  let v1980 : BitVec 1 := Scalar.cmpi .ne v1979 c0_i32_1317
  v1980

def k0_cond8 (i : grid0.Coords) : BitVec 1 :=
  let arg0 : BitVec 32 := BitVec.ofNat 32 (i 0).val
  let c0_i32_1318 : BitVec 32 := 0#32
  let v1981 : BitVec 1 := Scalar.cmpi .ne arg0 c0_i32_1318
  let v1982 : BitVec 32 := Scalar.extui v1981
  let c0_i32_1319 : BitVec 32 := 0#32
  let v1983 : BitVec 1 := Scalar.cmpi .ne v1982 c0_i32_1319
  v1983

def k0_cond9 (i : grid0.Coords) : BitVec 1 :=
  let arg0 : BitVec 32 := BitVec.ofNat 32 (i 0).val
  let c0_i32_1644 : BitVec 32 := 0#32
  let v2457 : BitVec 1 := Scalar.cmpi .eq arg0 c0_i32_1644
  let v2458 : BitVec 32 := Scalar.extui v2457
  let c0_i32_1645 : BitVec 32 := 0#32
  let v2459 : BitVec 1 := Scalar.cmpi .ne v2458 c0_i32_1645
  v2459

def k0_cond10 (i : grid0.Coords) : BitVec 1 :=
  let arg0 : BitVec 32 := BitVec.ofNat 32 (i 0).val
  let c0_i32_1646 : BitVec 32 := 0#32
  let v2460 : BitVec 1 := Scalar.cmpi .ne arg0 c0_i32_1646
  let v2461 : BitVec 32 := Scalar.extui v2460
  let c0_i32_1647 : BitVec 32 := 0#32
  let v2462 : BitVec 1 := Scalar.cmpi .ne v2461 c0_i32_1647
  v2462

def k0_cond11 (i : grid0.Coords) : BitVec 1 :=
  let arg0 : BitVec 32 := BitVec.ofNat 32 (i 0).val
  let c0_i32_1972 : BitVec 32 := 0#32
  let v2936 : BitVec 1 := Scalar.cmpi .eq arg0 c0_i32_1972
  let v2937 : BitVec 32 := Scalar.extui v2936
  let c0_i32_1973 : BitVec 32 := 0#32
  let v2938 : BitVec 1 := Scalar.cmpi .ne v2937 c0_i32_1973
  v2938

def k0_cond12 (i : grid0.Coords) : BitVec 1 :=
  let arg0 : BitVec 32 := BitVec.ofNat 32 (i 0).val
  let c0_i32_1974 : BitVec 32 := 0#32
  let v2939 : BitVec 1 := Scalar.cmpi .ne arg0 c0_i32_1974
  let v2940 : BitVec 32 := Scalar.extui v2939
  let c0_i32_1975 : BitVec 32 := 0#32
  let v2941 : BitVec 1 := Scalar.cmpi .ne v2940 c0_i32_1975
  v2941

def k0_cond13 (i : grid0.Coords) : BitVec 1 :=
  let arg0 : BitVec 32 := BitVec.ofNat 32 (i 0).val
  let c0_i32_2300 : BitVec 32 := 0#32
  let v3415 : BitVec 1 := Scalar.cmpi .eq arg0 c0_i32_2300
  let v3416 : BitVec 32 := Scalar.extui v3415
  let c0_i32_2301 : BitVec 32 := 0#32
  let v3417 : BitVec 1 := Scalar.cmpi .ne v3416 c0_i32_2301
  v3417

def k0_cond14 (i : grid0.Coords) : BitVec 1 :=
  let arg0 : BitVec 32 := BitVec.ofNat 32 (i 0).val
  let c0_i32_2302 : BitVec 32 := 0#32
  let v3418 : BitVec 1 := Scalar.cmpi .ne arg0 c0_i32_2302
  let v3419 : BitVec 32 := Scalar.extui v3418
  let c0_i32_2303 : BitVec 32 := 0#32
  let v3420 : BitVec 1 := Scalar.cmpi .ne v3419 c0_i32_2303
  v3420

def k0_cond15 (i : grid0.Coords) : BitVec 1 :=
  let arg0 : BitVec 32 := BitVec.ofNat 32 (i 0).val
  let c0_i32_2628 : BitVec 32 := 0#32
  let v3894 : BitVec 1 := Scalar.cmpi .eq arg0 c0_i32_2628
  let v3895 : BitVec 32 := Scalar.extui v3894
  let c0_i32_2629 : BitVec 32 := 0#32
  let v3896 : BitVec 1 := Scalar.cmpi .ne v3895 c0_i32_2629
  v3896

def k0_cond16 (i : grid0.Coords) : BitVec 1 :=
  let arg0 : BitVec 32 := BitVec.ofNat 32 (i 0).val
  let c0_i32_2630 : BitVec 32 := 0#32
  let v3897 : BitVec 1 := Scalar.cmpi .ne arg0 c0_i32_2630
  let v3898 : BitVec 32 := Scalar.extui v3897
  let c0_i32_2631 : BitVec 32 := 0#32
  let v3899 : BitVec 1 := Scalar.cmpi .ne v3898 c0_i32_2631
  v3899

def k0_cond17 (i : grid0.Coords) : BitVec 1 :=
  let arg0 : BitVec 32 := BitVec.ofNat 32 (i 0).val
  let c0_i32_2955 : BitVec 32 := 0#32
  let v4373 : BitVec 1 := Scalar.cmpi .eq arg0 c0_i32_2955
  let v4374 : BitVec 32 := Scalar.extui v4373
  let c0_i32_2956 : BitVec 32 := 0#32
  let v4375 : BitVec 1 := Scalar.cmpi .ne v4374 c0_i32_2956
  v4375

def k0_cond18 (i : grid0.Coords) : BitVec 1 :=
  let arg0 : BitVec 32 := BitVec.ofNat 32 (i 0).val
  let c0_i32_2957 : BitVec 32 := 0#32
  let v4376 : BitVec 1 := Scalar.cmpi .ne arg0 c0_i32_2957
  let v4377 : BitVec 32 := Scalar.extui v4376
  let c0_i32_2958 : BitVec 32 := 0#32
  let v4378 : BitVec 1 := Scalar.cmpi .ne v4377 c0_i32_2958
  v4378

def k0_cond19 (i : grid0.Coords) : BitVec 1 :=
  let arg0 : BitVec 32 := BitVec.ofNat 32 (i 0).val
  let c0_i32_3282 : BitVec 32 := 0#32
  let v4852 : BitVec 1 := Scalar.cmpi .eq arg0 c0_i32_3282
  let v4853 : BitVec 32 := Scalar.extui v4852
  let c0_i32_3283 : BitVec 32 := 0#32
  let v4854 : BitVec 1 := Scalar.cmpi .ne v4853 c0_i32_3283
  v4854

def k0_cond20 (i : grid0.Coords) : BitVec 1 :=
  let arg0 : BitVec 32 := BitVec.ofNat 32 (i 0).val
  let c0_i32_3284 : BitVec 32 := 0#32
  let v4855 : BitVec 1 := Scalar.cmpi .ne arg0 c0_i32_3284
  let v4856 : BitVec 32 := Scalar.extui v4855
  let c0_i32_3285 : BitVec 32 := 0#32
  let v4857 : BitVec 1 := Scalar.cmpi .ne v4856 c0_i32_3285
  v4857

def k0_cond21 (i : grid0.Coords) : BitVec 1 :=
  let arg0 : BitVec 32 := BitVec.ofNat 32 (i 0).val
  let c0_i32_3609 : BitVec 32 := 0#32
  let v5331 : BitVec 1 := Scalar.cmpi .eq arg0 c0_i32_3609
  let v5332 : BitVec 32 := Scalar.extui v5331
  let c0_i32_3610 : BitVec 32 := 0#32
  let v5333 : BitVec 1 := Scalar.cmpi .ne v5332 c0_i32_3610
  v5333

def k0_cond22 (i : grid0.Coords) : BitVec 1 :=
  let arg0 : BitVec 32 := BitVec.ofNat 32 (i 0).val
  let c0_i32_3611 : BitVec 32 := 0#32
  let v5334 : BitVec 1 := Scalar.cmpi .ne arg0 c0_i32_3611
  let v5335 : BitVec 32 := Scalar.extui v5334
  let c0_i32_3612 : BitVec 32 := 0#32
  let v5336 : BitVec 1 := Scalar.cmpi .ne v5335 c0_i32_3612
  v5336

def k0_cond23 (i : grid0.Coords) : BitVec 1 :=
  let arg0 : BitVec 32 := BitVec.ofNat 32 (i 0).val
  let c0_i32_3936 : BitVec 32 := 0#32
  let v5810 : BitVec 1 := Scalar.cmpi .eq arg0 c0_i32_3936
  let v5811 : BitVec 32 := Scalar.extui v5810
  let c0_i32_3937 : BitVec 32 := 0#32
  let v5812 : BitVec 1 := Scalar.cmpi .ne v5811 c0_i32_3937
  v5812

def k0_cond24 (i : grid0.Coords) : BitVec 1 :=
  let arg0 : BitVec 32 := BitVec.ofNat 32 (i 0).val
  let c0_i32_3938 : BitVec 32 := 0#32
  let v5813 : BitVec 1 := Scalar.cmpi .ne arg0 c0_i32_3938
  let v5814 : BitVec 32 := Scalar.extui v5813
  let c0_i32_3939 : BitVec 32 := 0#32
  let v5815 : BitVec 1 := Scalar.cmpi .ne v5814 c0_i32_3939
  v5815

def k0_cond25 (i : grid0.Coords) : BitVec 1 :=
  let arg0 : BitVec 32 := BitVec.ofNat 32 (i 0).val
  let c0_i32_4263 : BitVec 32 := 0#32
  let v6289 : BitVec 1 := Scalar.cmpi .eq arg0 c0_i32_4263
  let v6290 : BitVec 32 := Scalar.extui v6289
  let c0_i32_4264 : BitVec 32 := 0#32
  let v6291 : BitVec 1 := Scalar.cmpi .ne v6290 c0_i32_4264
  v6291

def k0_cond26 (i : grid0.Coords) : BitVec 1 :=
  let arg0 : BitVec 32 := BitVec.ofNat 32 (i 0).val
  let c0_i32_4265 : BitVec 32 := 0#32
  let v6292 : BitVec 1 := Scalar.cmpi .ne arg0 c0_i32_4265
  let v6293 : BitVec 32 := Scalar.extui v6292
  let c0_i32_4266 : BitVec 32 := 0#32
  let v6294 : BitVec 1 := Scalar.cmpi .ne v6293 c0_i32_4266
  v6294

def k0_cond27 (i : grid0.Coords) : BitVec 1 :=
  let arg0 : BitVec 32 := BitVec.ofNat 32 (i 0).val
  let c0_i32_4590 : BitVec 32 := 0#32
  let v6768 : BitVec 1 := Scalar.cmpi .eq arg0 c0_i32_4590
  let v6769 : BitVec 32 := Scalar.extui v6768
  let c0_i32_4591 : BitVec 32 := 0#32
  let v6770 : BitVec 1 := Scalar.cmpi .ne v6769 c0_i32_4591
  v6770

def k0_cond28 (i : grid0.Coords) : BitVec 1 :=
  let arg0 : BitVec 32 := BitVec.ofNat 32 (i 0).val
  let c0_i32_4592 : BitVec 32 := 0#32
  let v6771 : BitVec 1 := Scalar.cmpi .ne arg0 c0_i32_4592
  let v6772 : BitVec 32 := Scalar.extui v6771
  let c0_i32_4593 : BitVec 32 := 0#32
  let v6773 : BitVec 1 := Scalar.cmpi .ne v6772 c0_i32_4593
  v6773

def k0_cond29 (i : grid0.Coords) : BitVec 1 :=
  let arg0 : BitVec 32 := BitVec.ofNat 32 (i 0).val
  let c0_i32_4917 : BitVec 32 := 0#32
  let v7247 : BitVec 1 := Scalar.cmpi .eq arg0 c0_i32_4917
  let v7248 : BitVec 32 := Scalar.extui v7247
  let c0_i32_4918 : BitVec 32 := 0#32
  let v7249 : BitVec 1 := Scalar.cmpi .ne v7248 c0_i32_4918
  v7249

def k0_cond30 (i : grid0.Coords) : BitVec 1 :=
  let arg0 : BitVec 32 := BitVec.ofNat 32 (i 0).val
  let c0_i32_4919 : BitVec 32 := 0#32
  let v7250 : BitVec 1 := Scalar.cmpi .ne arg0 c0_i32_4919
  let v7251 : BitVec 32 := Scalar.extui v7250
  let c0_i32_4920 : BitVec 32 := 0#32
  let v7252 : BitVec 1 := Scalar.cmpi .ne v7251 c0_i32_4920
  v7252

def k0_cond31 (i : grid0.Coords) : BitVec 1 :=
  let arg0 : BitVec 32 := BitVec.ofNat 32 (i 0).val
  let c0_i32_5244 : BitVec 32 := 0#32
  let v7726 : BitVec 1 := Scalar.cmpi .eq arg0 c0_i32_5244
  let v7727 : BitVec 32 := Scalar.extui v7726
  let c0_i32_5245 : BitVec 32 := 0#32
  let v7728 : BitVec 1 := Scalar.cmpi .ne v7727 c0_i32_5245
  v7728

def k0_cond32 (i : grid0.Coords) : BitVec 1 :=
  let arg0 : BitVec 32 := BitVec.ofNat 32 (i 0).val
  let c0_i32_5246 : BitVec 32 := 0#32
  let v7729 : BitVec 1 := Scalar.cmpi .ne arg0 c0_i32_5246
  let v7730 : BitVec 32 := Scalar.extui v7729
  let c0_i32_5247 : BitVec 32 := 0#32
  let v7731 : BitVec 1 := Scalar.cmpi .ne v7730 c0_i32_5247
  v7731

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16x8x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x24320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S128x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x24320 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x128x24320 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "inv_n" => some ((1 / 194560 : ℝ) : EReal)
  | "neg" => some ⊥
  | _ => none
-- ==== ReferenceIdeal.lean ====
abbrev S8x64x24320 : Shape := ⟨3, ![8, 64, 24320]⟩
abbrev S8x24320 : Shape := ⟨2, ![8, 24320]⟩
abbrev S128x4x1 : Shape := ⟨3, ![128, 4, 1]⟩
abbrev S128 : Shape := ⟨1, ![128]⟩
abbrev S8x24320x64 : Shape := ⟨3, ![8, 24320, 64]⟩
abbrev S128x4 : Shape := ⟨2, ![128, 4]⟩
abbrev S16x8x4 : Shape := ⟨3, ![16, 8, 4]⟩
abbrev S8x16x4x24320 : Shape := ⟨4, ![8, 16, 4, 24320]⟩
abbrev S16x8x8x24320 : Shape := ⟨4, ![16, 8, 8, 24320]⟩
abbrev S8x16x8x24320 : Shape := ⟨4, ![8, 16, 8, 24320]⟩
abbrev S8x128x24320 : Shape := ⟨3, ![8, 128, 24320]⟩
abbrev S1x128x1 : Shape := ⟨3, ![1, 128, 1]⟩
abbrev S_ : Shape := ⟨0, ![]⟩
abbrev S8x128x16x1520 : Shape := ⟨4, ![8, 128, 16, 1520]⟩
abbrev S8x128x16 : Shape := ⟨3, ![8, 128, 16]⟩

abbrev nBuf : Space → Nat
  | .hbm => 66
  | .vmem => 0
  | .smem => 0
  | _ => 0

abbrev bufTy : (tb : Table) → Fin (tcTables nBuf tb) → BufTy
  | .hbm, ⟨0, _⟩ => ⟨S8x64x24320, .f32⟩
  | .hbm, ⟨1, _⟩ => ⟨S8x24320, .i32⟩
  | .hbm, ⟨2, _⟩ => ⟨S128x4x1, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S8x24320x64, .f32⟩
  | .hbm, ⟨7, _⟩ => ⟨S8x64x24320, .f32⟩
  | .hbm, ⟨8, _⟩ => ⟨S128x4, .f32⟩
  | .hbm, ⟨9, _⟩ => ⟨S16x8x4, .f32⟩
  | .hbm, ⟨10, _⟩ => ⟨S8x16x4x24320, .f32⟩
  | .hbm, ⟨11, _⟩ => ⟨S16x8x8x24320, .f32⟩
  | .hbm, ⟨12, _⟩ => ⟨S8x16x8x24320, .f32⟩
  | .hbm, ⟨13, _⟩ => ⟨S8x128x24320, .f32⟩
  | .hbm, ⟨14, _⟩ => ⟨S1x128x1, .f32⟩
  | .hbm, ⟨15, _⟩ => ⟨S8x128x24320, .f32⟩
  | .hbm, ⟨16, _⟩ => ⟨S8x128x24320, .f32⟩
  | .hbm, ⟨17, _⟩ => ⟨S_, .f32⟩
  | .hbm, ⟨18, _⟩ => ⟨S128, .f32⟩
  | .hbm, ⟨19, _⟩ => ⟨S1x128x1, .f32⟩
  | .hbm, ⟨20, _⟩ => ⟨S_, .f32⟩
  | .hbm, ⟨21, _⟩ => ⟨S1x128x1, .f32⟩
  | .hbm, ⟨22, _⟩ => ⟨S1x128x1, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128x1, .f32⟩
  | .hbm, ⟨27, _⟩ => ⟨S_, .f32⟩
  | .hbm, ⟨28, _⟩ => ⟨S1x128x1, .f32⟩
  | .hbm, ⟨29, _⟩ => ⟨S1x128x1, .f32⟩
  | .hbm, ⟨30, _⟩ => ⟨S8x128x24320, .f32⟩
  | .hbm, ⟨31, _⟩ => ⟨S8x128x24320, .f32⟩
  | .hbm, ⟨32, _⟩ => ⟨S8x128x24320, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S1x128x1, .f32⟩
  | .hbm, ⟨39, _⟩ => ⟨S1x128x1, .f32⟩
  | .hbm, ⟨40, _⟩ => ⟨S1x128x1, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S1x128x1, .f32⟩
  | .hbm, ⟨46, _⟩ => ⟨S1x128x1, .f32⟩
  | .hbm, ⟨47, _⟩ => ⟨S8x128x24320, .f32⟩
  | .hbm, ⟨48, _⟩ => ⟨S8x128x24320, .f32⟩
  | .hbm, ⟨49, _⟩ => ⟨S_, .f32⟩
  | .hbm, ⟨50, _⟩ => ⟨S1x128x1, .f32⟩
  | .hbm, ⟨51, _⟩ => ⟨S1x128x1, .f32⟩
  | .hbm, ⟨52, _⟩ => ⟨S1x128x1, .f32⟩
  | .hbm, ⟨53, _⟩ => ⟨S8x128x24320, .f32⟩
  | .hbm, ⟨54, _⟩ => ⟨S8x128x24320, .f32⟩
  | .hbm, ⟨55, _⟩ => ⟨S1x128x1, .f32⟩
  | .hbm, ⟨56, _⟩ => ⟨S8x128x24320, .f32⟩
  | .hbm, ⟨57, _⟩ => ⟨S8x128x24320, .f32⟩
  | .hbm, ⟨58, _⟩ => ⟨S1x128x1, .f32⟩
  | .hbm, ⟨59, _⟩ => ⟨S8x128x24320, .f32⟩
  | .hbm, ⟨60, _⟩ => ⟨S8x128x24320, .f32⟩
  | .hbm, ⟨61, _⟩ => ⟨S8x128x16x1520, .f32⟩
  | .hbm, ⟨62, _⟩ => ⟨S_, .f32⟩
  | .hbm, ⟨63, _⟩ => ⟨S8x128x16, .f32⟩
  | .hbm, ⟨64, _⟩ => ⟨S8x128x16x1520, .f32⟩
  | .hbm, ⟨65, _⟩ => ⟨S8x128x24320, .f32⟩
  | _, _ => ⟨S8x64x24320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_2 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]
-- ==== Proof.Steps.lean ====
/-
  The first pass's body, written once: what a step computes (masks, the weighted sum of four planes, its sum and its ring
  maxima), the program of each step (copying a plane, one output channel, the statistics of a group), and the body as the
  sixteen groups' programs one after another.  The steps are stated for any signature of buffers, so that both printed
  programs are instances of them.
-/
module

public import proofs.«01_k».proof.KernelIdeal

@[expose] public section

noncomputable section

namespace Cert.Steps

open Cert.KernelIdeal

open Idealize.ShloMosaic Idealize.SL.Sem
open Facts₀ Facts

variable {F : FTy → Type} [FloatOps F] [Facts]
variable {nD : Nat} {τ : Topo} {sig : RefSig} {Λ : Labels}

/-- A kernel program. -/
abbrev PR (nD : Nat) (τ : Topo) (sig : RefSig) (Λ : Labels) (F : FTy → Type) := Prog (TpuEff nD τ sig (Elt F) Λ .tc) PUnit

/-! The masks -/

/-- The ring that flat position `64·v1` lies in: the floor of the quotient by 1520, as the program computes it. -/
def ringOf (s : Shape) (v1 : IVec s 32) : IVec s 32 :=
  have v3 : IVec s 32 := muli (broadcast s 64#32) v1
  have v5 : IVec s 32 := divsi v3 (broadcast s 1520#32)
  have v8 : IVec s 32 := extui 32 (cmpi .sgt v3 (broadcast s 0#32)) natLt_1_32
  have v11 : IVec s 32 := extui 32 (cmpi .slt v3 (broadcast s 0#32)) natLt_1_32
  have v12 : IVec s 32 := subi v8 v11
  have v17 : BitVec 32 := Scalar.subi (Scalar.extui (Scalar.cmpi .sgt 1520#32 0#32)) (Scalar.extui (Scalar.cmpi .slt 1520#32 0#32))
  have v19 : IVec s 1 := cmpi .ne v12 (broadcast s v17)
  have v23 : IVec s 1 := cmpi .ne (remsi v3 (broadcast s 1520#32)) (broadcast s 0#32)
  select (andi v19 v23) (subi v5 (broadcast s 1#32)) v5

/-- At row `c`, column `q`: whether flat position `64q + c` lies in the same ring as `64q`. -/
def inLow : IVec S64x380 1 :=
  have v0 : IVec S64x380 32 := iota .tc S64x380 32 [0] iota_S64x380_d0_w32
  have v1 : IVec S64x380 32 := iota .tc S64x380 32 [1] iota_S64x380_d1_w32
  have v27 : IVec S64x380 32 := ringOf S64x380 v1
  cmpi .slt v0 (subi (muli (broadcast S64x380 1520#32) (addi v27 (broadcast S64x380 1#32))) (muli (broadcast S64x380 64#32) v1))

/-- At row `r`, column `q`: whether `64q` lies in ring `r`. -/
def selA : IVec S16x380 1 :=
  cmpi .eq (ringOf S16x380 (iota .tc S16x380 32 [1] iota_S16x380_d1_w32)) (iota .tc S16x380 32 [0] iota_S16x380_d0_w32)

/-- At row `r`, column `q`: whether `64q` lies in the ring before `r`. -/
def selB : IVec S16x380 1 :=
  cmpi .eq (addi (ringOf S16x380 (iota .tc S16x380 32 [1] iota_S16x380_d1_w32)) (broadcast S16x380 1#32)) (iota .tc S16x380 32 [0] iota_S16x380_d0_w32)

/-! The arithmetic -/

/-- A plane times a weight. -/
def term (w : Vec F S1x1x1 .f32) (p : Vec F S1x64x380 .f32) : FVec F S64x380 .f32 :=
  mulf (broadcast S64x380 (w (Shape.Idx.first (numel1_S1x1x1.symm ▸ Nat.one_pos)))) (shapeCast S64x380 p shapeCasts_S1x64x380_S64x380)

/-- The sum over a plane. -/
def sumOf (a : FVec F S64x380 .f32) : F .f32 :=
  extractAt ![0, 0, 0] (shapeCast S1x1x1 (multiReduction .add [1, 2] S1 (shapeCast S1x64x380 a shapeCasts_S64x380_S1x64x380) 0x00000000#32 reduces_S1x64x380_S1 (.inl rfl) rfl : FVec F S1 .f32) shapeCasts_S1_S1x1x1) inpos_S1x1x1_p0_0_0

variable (neg : F .f32)

/-- The maxima over the columns of each ring that `sel` assigns to it. -/
def spread (sel : IVec S16x380 1) (m : FVec F S380 .f32) : FVec F S16 .f32 :=
  multiReduction .maximumf [1] S16 (select sel (broadcastTo S16x380 (shapeCast S1x380 (shapeCast S1x380 m shapeCasts_S380_S1x380) shapeCasts_S1x380_S1x380) broadcasts_S1x380_S16x380) (broadcast S16x380 neg)) 0xFF800000#32 reduces_S16x380_S16 (.inl rfl) rfl

/-- The sixteen ring maxima of an output channel. -/
def rowOf (a : FVec F S64x380 .f32) : FVec F S16 .f32 :=
  maximumf
    (spread neg selA (multiReduction .maximumf [0] S380 (select inLow a (broadcast S64x380 neg)) 0xFF800000#32 reduces_S64x380_S380 (.inl rfl) rfl))
    (spread neg selB (multiReduction .maximumf [0] S380 (select inLow (broadcast S64x380 neg) a) 0xFF800000#32 reduces_S64x380_S380 (.inl rfl) rfl))

/-- Eight numbers as a vector. -/
def cat8 (s : Fin 8 → F .f32) : FVec F S8 .f32 :=
  concatenate S8 0 [⟨S1, broadcast S1 (s 0)⟩, ⟨S1, broadcast S1 (s 1)⟩, ⟨S1, broadcast S1 (s 2)⟩, ⟨S1, broadcast S1 (s 3)⟩, ⟨S1, broadcast S1 (s 4)⟩, ⟨S1, broadcast S1 (s 5)⟩, ⟨S1, broadcast S1 (s 6)⟩, ⟨S1, broadcast S1 (s 7)⟩] concatenates_S1_S1_S1_S1_S1_S1_S1_S1_S8_d0

/-- The eight sums and the eight sums of squares of a group, as two rows. -/
def partOf (s q : Fin 8 → F .f32) : FVec F S2x8 .f32 :=
  concatenate S2x8 0 [⟨S1x8, shapeCast S1x8 (cat8 s) shapeCasts_S8_S1x8⟩, ⟨S1x8, shapeCast S1x8 (cat8 q) shapeCasts_S8_S1x8⟩] concatenates_S1x8_S1x8_S2x8_d0

/-! The steps -/

/-- The rectangles that the steps access lie within their blocks: the input's plane, -/
theorem inbX (g : Fin 16) (p : Fin 4) : ∀ a, (![0, 0, 1520 * g.val + 380 * p.val] : Fin 3 → Nat) a + S1x64x380.size a ≤ S1x64x24320.size a := by
  intro a; fin_cases a
  · exact le_refl 1
  · exact le_refl 64
  · show 1520 * g.val + 380 * p.val + 380 ≤ 24320; omega

/-- the scratch's plane, -/
theorem inbP (p : Fin 4) : ∀ a, (![p.val, 0, 0] : Fin 3 → Nat) a + S1x64x380.size a ≤ S4x64x380.size a := by
  intro a; fin_cases a
  · show p.val + 1 ≤ 4; omega
  · exact le_refl 64
  · exact le_refl 380

/-- The rectangle of weight `(g, o, p)`. -/
theorem inbW (g : Fin 16) (o : Fin 8) (p : Fin 4) : ∀ a, (![g.val, o.val, p.val] : Fin 3 → Nat) a + S1x1x1.size a ≤ S16x8x4.size a := by
  intro a; fin_cases a
  · show g.val + 1 ≤ 16; omega
  · show o.val + 1 ≤ 8; omega
  · show p.val + 1 ≤ 4; omega

/-- the row of an output channel's ring maxima, -/
theorem inbS (g : Fin 16) (o : Fin 8) : ∀ a, (![0, g.val, o.val, 0] : Fin 4 → Nat) a + S1x1x1x16.size a ≤ S1x16x8x16.size a := by
  intro a; fin_cases a
  · exact le_refl 1
  · show g.val + 1 ≤ 16; omega
  · show o.val + 1 ≤ 8; omega
  · exact le_refl 16

/-- The rectangle of group `g` in the statistics. -/
theorem inbT (g : Fin 16) : ∀ a, (![g.val, 0, 0] : Fin 3 → Nat) a + S1x2x8.size a ≤ S16x2x8.size a := by
  intro a; fin_cases a
  · show g.val + 1 ≤ 16; omega
  · exact le_refl 2
  · exact le_refl 8

variable (arg1 : Memref sig .tc .smem S16x8x4 .f32) (arg2 : Memref sig .tc .vmem S1x64x24320 .f32) (arg3 : Memref sig .tc .vmem S16x2x8 .f32) (arg4 : Memref sig .tc .vmem S1x16x8x16 .f32) (arg5 : Memref sig .tc .vmem S4x64x380 .f32)

/-- Copying plane `p` of group `g` into the scratch, then the rest of the program. -/
def copyStep (g : Fin 16) (p : Fin 4) (k : PR nD τ sig Λ F) : PR nD τ sig Λ F := do
  let x : Vec F S1x64x380 .f32 ← Prog.lift (.load arg2 (Rect.unit (s := S1x64x24320) ![0, 0, 1520 * g.val + 380 * p.val] S1x64x380.size (inbX g p)).toLoadRect (View.loadsAt_vmem h_S1x64x380))
  let _ : Vec F S1x64x380 .f32 ← Prog.lift (.load arg5 (Rect.unit (s := S4x64x380) ![p.val, 0, 0] S1x64x380.size (inbP p)).toLoadRect (View.loadsAt_vmem h_S1x64x380))
  Prog.lift (.store arg5 (Rect.unit (s := S4x64x380) ![p.val, 0, 0] S1x64x380.size (inbP p)) (shapeCast S1x64x380 (shapeCast S64x380 x shapeCasts_S1x64x380_S64x380 : FVec F S64x380 .f32) shapeCasts_S64x380_S1x64x380 : FVec F S1x64x380 .f32) Finset.univ (View.stores_vmem_bits_univ h_S1x64x380 rfl) (.inl rfl))
  k

/-- Loading weight `p` of output `o` of group `g`, and plane `p` of the scratch. -/
def pair (g : Fin 16) (o : Fin 8) (p : Fin 4) (k : Vec F S1x1x1 .f32 → Vec F S1x64x380 .f32 → PR nD τ sig Λ F) : PR nD τ sig Λ F := do
  let w : Vec F S1x1x1 .f32 ← Prog.lift (.load arg1 (Rect.unit (s := S16x8x4) ![g.val, o.val, p.val] S1x1x1.size (inbW g o p)).toLoadRect (View.loadsAt_rect (View.loads_smem_one rfl numel1_S1x1x1)))
  let v : Vec F S1x64x380 .f32 ← Prog.lift (.load arg5 (Rect.unit (s := S4x64x380) ![p.val, 0, 0] S1x64x380.size (inbP p)).toLoadRect (View.loadsAt_vmem h_S1x64x380))
  k w v

/-- Storing the ring maxima of an output channel. -/
def rowStep (g : Fin 16) (o : Fin 8) (a : FVec F S64x380 .f32) (k : PUnit → PR nD τ sig Λ F) : PR nD τ sig Λ F := do
  let _ : Vec F S1x1x1x16 .f32 ← Prog.lift (.load arg4 (Rect.unit (s := S1x16x8x16) ![0, g.val, o.val, 0] S1x1x1x16.size (inbS g o)).toLoadRect (View.loadsAt_vmem h_S1x1x1x16))
  let u ← Prog.lift (.store arg4 (Rect.unit (s := S1x16x8x16) ![0, g.val, o.val, 0] S1x1x1x16.size (inbS g o)) (shapeCast S1x1x1x16 (rowOf neg a) shapeCasts_S16_S1x1x1x16 : FVec F S1x1x1x16 .f32) Finset.univ (View.stores_vmem_bits_univ h_S1x1x1x16 rfl) (.inl rfl))
  k u

/-- Four planes weighted and added. -/
def comb (w0 : Vec F S1x1x1 .f32) (v0 : Vec F S1x64x380 .f32) (w1 : Vec F S1x1x1 .f32) (v1 : Vec F S1x64x380 .f32) (w2 : Vec F S1x1x1 .f32) (v2 : Vec F S1x64x380 .f32) (w3 : Vec F S1x1x1 .f32) (v3 : Vec F S1x64x380 .f32) : FVec F S64x380 .f32 :=
  addf (addf (addf (term w0 v0) (term w1 v1)) (term w2 v2)) (term w3 v3)

/-- What follows the eight loads and the store of an output. -/
abbrev L8 (F : FTy → Type) (R : Type 1) := Vec F S1x1x1 .f32 → Vec F S1x64x380 .f32 → Vec F S1x1x1 .f32 → Vec F S1x64x380 .f32 → Vec F S1x1x1 .f32 → Vec F S1x64x380 .f32 → Vec F S1x1x1 .f32 → Vec F S1x64x380 .f32 → PUnit.{1} → R

/-- One output channel: its weights and planes loaded and its ring maxima stored. -/
def outStep (g : Fin 16) (o : Fin 8) (k : L8 F (PR nD τ sig Λ F)) : PR nD τ sig Λ F :=
  pair arg1 arg5 g o 0 fun w0 v0 => pair arg1 arg5 g o 1 fun w1 v1 => pair arg1 arg5 g o 2 fun w2 v2 => pair arg1 arg5 g o 3 fun w3 v3 =>
    rowStep neg arg4 g o (comb w0 v0 w1 v1 w2 v2 w3 v3) (k w0 v0 w1 v1 w2 v2 w3 v3)

/-- The same, the rest of the program taking the channel's sum and its sum of squares. -/
def outStep' (g : Fin 16) (o : Fin 8) (k : F .f32 → F .f32 → PR nD τ sig Λ F) : PR nD τ sig Λ F :=
  outStep neg arg1 arg4 arg5 g o fun w0 v0 w1 v1 w2 v2 w3 v3 _ =>
    k (sumOf (comb w0 v0 w1 v1 w2 v2 w3 v3)) (sumOf (mulf (comb w0 v0 w1 v1 w2 v2 w3 v3) (comb w0 v0 w1 v1 w2 v2 w3 v3)))

/-- The statistics of a group stored, or added to what is there. -/
def statStep (first : Bool) (g : Fin 16) (part : FVec F S2x8 .f32) (k : PUnit → PR nD τ sig Λ F) : PR nD τ sig Λ F :=
  match first with
  | true => do
    let _ : Vec F S1x2x8 .f32 ← Prog.lift (.load arg3 (Rect.unit (s := S16x2x8) ![g.val, 0, 0] S1x2x8.size (inbT g)).toLoadRect (View.loadsAt_vmem h_S1x2x8))
    let u ← Prog.lift (.store arg3 (Rect.unit (s := S16x2x8) ![g.val, 0, 0] S1x2x8.size (inbT g)) (shapeCast S1x2x8 part shapeCasts_S2x8_S1x2x8 : FVec F S1x2x8 .f32) Finset.univ (View.stores_vmem_bits_univ h_S1x2x8 rfl) (.inl rfl))
    k u
  | false => do
    let v : Vec F S1x2x8 .f32 ← Prog.lift (.load arg3 (Rect.unit (s := S16x2x8) ![g.val, 0, 0] S1x2x8.size (inbT g)).toLoadRect (View.loadsAt_vmem h_S1x2x8))
    let _ : Vec F S1x2x8 .f32 ← Prog.lift (.load arg3 (Rect.unit (s := S16x2x8) ![g.val, 0, 0] S1x2x8.size (inbT g)).toLoadRect (View.loadsAt_vmem h_S1x2x8))
    let u ← Prog.lift (.store arg3 (Rect.unit (s := S16x2x8) ![g.val, 0, 0] S1x2x8.size (inbT g)) (shapeCast S1x2x8 (addf (shapeCast S2x8 v shapeCasts_S1x2x8_S2x8 : FVec F S2x8 .f32) part) shapeCasts_S2x8_S1x2x8 : FVec F S1x2x8 .f32) Finset.univ (View.stores_vmem_bits_univ h_S1x2x8 rfl) (.inl rfl))
    k u

/-- One group: four planes copied, eight output channels, the statistics. -/
def groupStep (first : Bool) (g : Fin 16) (k : PUnit → PR nD τ sig Λ F) : PR nD τ sig Λ F :=
  copyStep arg2 arg5 g 0 <| copyStep arg2 arg5 g 1 <| copyStep arg2 arg5 g 2 <| copyStep arg2 arg5 g 3 <|
  outStep' neg arg1 arg4 arg5 g 0 fun s0 q0 => outStep' neg arg1 arg4 arg5 g 1 fun s1 q1 =>
  outStep' neg arg1 arg4 arg5 g 2 fun s2 q2 => outStep' neg arg1 arg4 arg5 g 3 fun s3 q3 =>
  outStep' neg arg1 arg4 arg5 g 4 fun s4 q4 => outStep' neg arg1 arg4 arg5 g 5 fun s5 q5 =>
  outStep' neg arg1 arg4 arg5 g 6 fun s6 q6 => outStep' neg arg1 arg4 arg5 g 7 fun s7 q7 =>
  statStep arg3 first g (partOf ![s0, s1, s2, s3, s4, s5, s6, s7] ![q0, q1, q2, q3, q4, q5, q6, q7]) k

/-- Two spellings of sequencing and of returning. -/
theorem bind_eq {E : Type → Type} {α β} (a : Prog E α) (f : α → Prog E β) : Prog.bind a f = a >>= f := rfl
/-- Returning is the effect-free program. -/
theorem ret_eq {E : Type → Type} {α} (a : α) : (Prog.ret a : Prog E α) = pure a := rfl
/-- A program that is a statistics step followed by `k` is one followed by `k'`, when these agree. -/
theorem chS (first) (g : Fin 16) (p) (L : PR nD τ sig Λ F) (k k') (h : L = statStep arg3 first g p k) (hk : ∀ u, k u = k' u) : L = statStep arg3 first g p k' := by
  obtain rfl : k = k' := by funext  u; exact hk ..
  exact h
/-- The groups of a list one after another. -/
def run (first : Bool) : List (Fin 16) → PUnit.{1} → PR nD τ sig Λ F
  | [] => fun _ => pure ⟨⟩
  | g :: gs => fun _ => groupStep neg arg1 arg2 arg3 arg4 arg5 first g (run first gs)
/-- One group up to its statistics, the rest of the program taking all that was loaded. -/
def outs8 (g : Fin 16) (k : L8 F (L8 F (L8 F (L8 F (L8 F (L8 F (L8 F (L8 F (PR nD τ sig Λ F))))))))) : PR nD τ sig Λ F :=
  copyStep arg2 arg5 g 0 <| copyStep arg2 arg5 g 1 <| copyStep arg2 arg5 g 2 <| copyStep arg2 arg5 g 3 <|
  outStep neg arg1 arg4 arg5 g 0 fun w00 v00 w01 v01 w02 v02 w03 v03 u0 =>
  outStep neg arg1 arg4 arg5 g 1 fun w10 v10 w11 v11 w12 v12 w13 v13 u1 =>
  outStep neg arg1 arg4 arg5 g 2 fun w20 v20 w21 v21 w22 v22 w23 v23 u2 =>
  outStep neg arg1 arg4 arg5 g 3 fun w30 v30 w31 v31 w32 v32 w33 v33 u3 =>
  outStep neg arg1 arg4 arg5 g 4 fun w40 v40 w41 v41 w42 v42 w43 v43 u4 =>
  outStep neg arg1 arg4 arg5 g 5 fun w50 v50 w51 v51 w52 v52 w53 v53 u5 =>
  outStep neg arg1 arg4 arg5 g 6 fun w60 v60 w61 v61 w62 v62 w63 v63 u6 =>
  outStep neg arg1 arg4 arg5 g 7 fun w70 v70 w71 v71 w72 v72 w73 v73 u7 =>
  k w00 v00 w01 v01 w02 v02 w03 v03 u0 w10 v10 w11 v11 w12 v12 w13 v13 u1 w20 v20 w21 v21 w22 v22 w23 v23 u2 w30 v30 w31 v31 w32 v32 w33 v33 u3 w40 v40 w41 v41 w42 v42 w43 v43 u4 w50 v50 w51 v51 w52 v52 w53 v53 u5 w60 v60 w61 v61 w62 v62 w63 v63 u6 w70 v70 w71 v71 w72 v72 w73 v73 u7
/-- A program that is a group up to its statistics, followed by the statistics step and the other groups, is the groups'
    program. -/
theorem chA (first : Bool) (g : Fin 16) (gs : List (Fin 16)) (L : PR nD τ sig Λ F) (k : L8 F (L8 F (L8 F (L8 F (L8 F (L8 F (L8 F (L8 F (PR nD τ sig Λ F))))))))) (h : L = outs8 neg arg1 arg2 arg4 arg5 g k)
   (hk : ∀ w00 v00 w01 v01 w02 v02 w03 v03 u0 w10 v10 w11 v11 w12 v12 w13 v13 u1 w20 v20 w21 v21 w22 v22 w23 v23 u2 w30 v30 w31 v31 w32 v32 w33 v33 u3 w40 v40 w41 v41 w42 v42 w43 v43 u4 w50 v50 w51 v51 w52 v52 w53 v53 u5 w60 v60 w61 v61 w62 v62 w63 v63 u6 w70 v70 w71 v71 w72 v72 w73 v73 u7, k w00 v00 w01 v01 w02 v02 w03 v03 u0 w10 v10 w11 v11 w12 v12 w13 v13 u1 w20 v20 w21 v21 w22 v22 w23 v23 u2 w30 v30 w31 v31 w32 v32 w33 v33 u3 w40 v40 w41 v41 w42 v42 w43 v43 u4 w50 v50 w51 v51 w52 v52 w53 v53 u5 w60 v60 w61 v61 w62 v62 w63 v63 u6 w70 v70 w71 v71 w72 v72 w73 v73 u7 = statStep arg3 first g (partOf ![sumOf (comb w00 v00 w01 v01 w02 v02 w03 v03), sumOf (comb w10 v10 w11 v11 w12 v12 w13 v13), sumOf (comb w20 v20 w21 v21 w22 v22 w23 v23), sumOf (comb w30 v30 w31 v31 w32 v32 w33 v33), sumOf (comb w40 v40 w41 v41 w42 v42 w43 v43), sumOf (comb w50 v50 w51 v51 w52 v52 w53 v53), sumOf (comb w60 v60 w61 v61 w62 v62 w63 v63), sumOf (comb w70 v70 w71 v71 w72 v72 w73 v73)] ![sumOf (mulf (comb w00 v00 w01 v01 w02 v02 w03 v03) (comb w00 v00 w01 v01 w02 v02 w03 v03)), sumOf (mulf (comb w10 v10 w11 v11 w12 v12 w13 v13) (comb w10 v10 w11 v11 w12 v12 w13 v13)), sumOf (mulf (comb w20 v20 w21 v21 w22 v22 w23 v23) (comb w20 v20 w21 v21 w22 v22 w23 v23)), sumOf (mulf (comb w30 v30 w31 v31 w32 v32 w33 v33) (comb w30 v30 w31 v31 w32 v32 w33 v33)), sumOf (mulf (comb w40 v40 w41 v41 w42 v42 w43 v43) (comb w40 v40 w41 v41 w42 v42 w43 v43)), sumOf (mulf (comb w50 v50 w51 v51 w52 v52 w53 v53) (comb w50 v50 w51 v51 w52 v52 w53 v53)), sumOf (mulf (comb w60 v60 w61 v61 w62 v62 w63 v63) (comb w60 v60 w61 v61 w62 v62 w63 v63)), sumOf (mulf (comb w70 v70 w71 v71 w72 v72 w73 v73) (comb w70 v70 w71 v71 w72 v72 w73 v73))]) (run neg arg1 arg2 arg3 arg4 arg5 first gs)) (u) : L = run neg arg1 arg2 arg3 arg4 arg5 first (g :: gs) u := by
  rw [h]
  unfold outs8
  simp only [hk]
  rfl

end Cert.Steps

end
-- ==== Proof.BodyA.lean ====
/-
  The body of the first pass, printed as one long sequence of effects, is the sequence of its sixteen uniform group
  steps (`Steps.lean`): at the grid's first point each group stores its partial sums, later it adds them.
-/
module

public import proofs.«01_k».proof.Proof.Steps

@[expose] public section

noncomputable section

namespace Cert.KernelIdeal.PassA

open Idealize.ShloMosaic Idealize.SL.Sem
open Facts₀ Facts

variable {F : FTy → Type} [FloatOps F] [Named F] [Facts]

/-- The condition guarding the first point's stores. -/
def isFirst (i : grid0.Coords) : BitVec 1 :=
  Scalar.cmpi .ne (Scalar.extui (Scalar.cmpi .eq (BitVec.ofNat 32 (i 0).val) 0#32) : BitVec 32) 0#32

/-- The condition guarding the later points' additions. -/
def isLater (i : grid0.Coords) : BitVec 1 :=
  Scalar.cmpi .ne (Scalar.extui (Scalar.cmpi .ne (BitVec.ofNat 32 (i 0).val) 0#32) : BitVec 32) 0#32

/-- The condition of the first grid point, as a bit. -/
theorem isFirst_eq (i : grid0.Coords) : isFirst i = BitVec.ofBool (decide ((i 0).val = 0)) := by
  unfold isFirst
  generalize i 0 = n
  revert n
  decide

/-- The condition of the later grid points, as a bit. -/
theorem isLater_eq (i : grid0.Coords) : isLater i = BitVec.ofBool (!decide ((i 0).val = 0)) := by
  unfold isLater
  generalize i 0 = n
  revert n
  decide

variable (i : grid0.Coords) (arg1 : Memref sig .tc .smem S16x8x4 .f32) (harg1 : arg1.IsWhole) (arg2 : Memref sig .tc .vmem S1x64x24320 .f32) (harg2 : arg2.IsWhole) (arg3 : Memref sig .tc .vmem S16x2x8 .f32) (harg3 : arg3.IsWhole) (arg4 : Memref sig .tc .vmem S1x16x8x16 .f32) (harg4 : arg4.IsWhole) (arg5 : Memref sig .tc .vmem S4x64x380 .f32) (harg5 : arg5.IsWhole)

set_option maxRecDepth 100000 in
set_option maxHeartbeats 8000000 in
/-- The printed body is the sixteen group steps, given which of its two conditions holds. -/
theorem body_eq_of (first : Bool) (h1 : isFirst i = BitVec.ofBool first) (h2 : isLater i = BitVec.ofBool (!first)) :
    cc0__pass_a_body (F := F) i arg1 harg1 arg2 harg2 arg3 harg3 arg4 harg4 arg5 harg5
      = Steps.run (Named.named κ "neg" 0xFF61B1E6#32) arg1 arg2 arg3 arg4 arg5 first [0, 1, 2, 3, 4, 5, 6, 7, 8, 9, 10, 11, 12, 13, 14, 15] ⟨⟩ := by
  have h3 : ¬ (BitVec.ofBool false = 1#1) := by decide
  have h4 : BitVec.ofBool true = 1#1 := by decide
  unfold isFirst at h1
  unfold isLater at h2
  unfold cc0__pass_a_body k0_part222
  cases first <;> simp only [Bool.not_false, Bool.not_true] at h1 h2 <;>
    iterate 16
      apply Steps.chA
      · exact Eq.refl _
      intros
      simp only [Steps.bind_eq, Steps.ret_eq, bind_assoc, pure_bind, k0_part223, k0_part224, k0_part225, k0_part16, k0_part29, k0_part43, k0_part57, k0_part71, k0_part84, k0_part98, k0_part112, k0_part126, k0_part139, k0_part153, k0_part167, k0_part181, k0_part194, k0_part208, k0_cond1, k0_cond2, k0_cond3, k0_cond4, k0_cond5, k0_cond6, k0_cond7, k0_cond8, k0_cond9, k0_cond10, k0_cond11, k0_cond12, k0_cond13, k0_cond14, k0_cond15, k0_cond16, k0_cond17, k0_cond18, k0_cond19, k0_cond20, k0_cond21, k0_cond22, k0_cond23, k0_cond24, k0_cond25, k0_cond26, k0_cond27, k0_cond28, k0_cond29, k0_cond30, k0_cond31, k0_cond32, h1, h2, h3, h4, ↓reduceDIte]
      apply Steps.chS
      · exact Eq.refl _
      intros
  all_goals exact Eq.refl _

/-- The printed body at a grid point is the sixteen group steps, storing at the first point and adding later. -/
theorem body_eq : cc0__pass_a_body (F := F) i arg1 harg1 arg2 harg2 arg3 harg3 arg4 harg4 arg5 harg5
      = Steps.run (Named.named κ "neg" 0xFF61B1E6#32) arg1 arg2 arg3 arg4 arg5 (decide ((i 0).val = 0)) [0, 1, 2, 3, 4, 5, 6, 7, 8, 9, 10, 11, 12, 13, 14, 15] ⟨⟩ :=
  body_eq_of i arg1 harg1 arg2 harg2 arg3 harg3 arg4 harg4 arg5 harg5 _ (isFirst_eq i) (isLater_eq i)

end Cert.KernelIdeal.PassA

end
-- ==== Proof.Spec.lean ====
/-
  What the steps of the first pass do to what is held: each step's load and store as a rule of the program logic, the
  group step from its four planes and eight outputs, and the sixteen groups in order.
-/
module

public import proofs.«01_k».proof.Proof.Steps
public import Idealize.ShloMosaic.Lib.Pipeline.FrameBody
public import Idealize.ShloMosaic.Lib.Tactic

@[expose] public section

noncomputable section

namespace Cert.Steps

open Cert.KernelIdeal
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Facts₀ Facts

variable {F : FTy → Type} [FloatOps F] [Facts]
variable {nD : Nat} {τ : Topo} {sig : RefSig} {Λ : Labels} {defs : Defs nD τ sig (Elt F) Λ}
variable {Ix : Type} [DecidableEq Ix] {Name : Type} [DecidableEq Name] {U : Type} [URA U] {Lvl : Type} [Preorder Lvl]
variable (c : Dev nD) (E : Set Name)
variable {Q : PUnit → sProp (MT nD τ sig Ix (Elt F) Name U Lvl)}

local notation "𝕄" => MT nD τ sig Ix (Elt F) Name U Lvl

/-- The memref `M` held whole, reading `X`. -/
abbrev own (c : Dev nD) {sp : Space} {s : Shape} {e : EltTy} (M : Memref sig .tc sp s e) (X : s.Idx → Elt F e) : sProp 𝕄 :=
  owns (c.tc : Thread nD τ) M fullShare X

/-- The weakest precondition of a program on core `c`. -/
abbrev WP (defs : Defs nD τ sig (Elt F) Λ) (c : Dev nD) (E : Set Name) (p : PR nD τ sig Λ F) (Q : PUnit → sProp (MT nD τ sig Ix (Elt F) Name U Lvl)) : sProp 𝕄 :=
  wp frame (wpE defs Variants.none (c.tc : Thread nD τ) none) E p Q

/-- A load reads the rectangle of what the memref holds. -/
theorem own_load {cs : CoreSpace} {s : Shape} {e : EltTy} (M : Memref sig .tc cs s e) (r : Rect s) (hl : M.view.LoadsAt r.toLoadRect)
    (X : s.Idx → Elt F e) (k : (r.shape.Idx → Elt F e) → PR nD τ sig Λ F) (A : sProp 𝕄)
    (hk : iprop(own c M X ∗ A) ⊢ WP defs c E (k (View.ld X r)) Q) :
    iprop(own c M X ∗ A) ⊢ WP defs c E (Prog.lift (.load M r.toLoadRect hl) >>= k) Q := by
  unfold own owns at *
  iintro ⟨⟨%f, %hf, H⟩, HA⟩
  subst hf
  have h := wp_load_rect (defs := defs) Variants.none (c.tc : Thread nD τ) none (Γ := ∅) E (Q := Q) (m := M) (r := r) (hl := hl) (k := k) (q := fullShare) (f := f)
    (S := M.view.set) (View.set_slice_subset _ _)
  ihave H' := h $$ H
  iapply H'
  iintro H
  iapply hk
  isplitl [H]
  · iexists f; isplitr; · ipureintro; rfl
    iexact H
  iexact HA

/-- A store replaces the rectangle of what the memref holds. -/
theorem own_store {cs : CoreSpace} {s : Shape} {e : EltTy} (M : Memref sig .tc cs s e) (r : Rect s) (w : r.shape.Idx → Elt F e)
    (hx : (M.access r).Stores Finset.univ) (hm : Finset.univ = Finset.univ ∨ ∀ a, r.stride a = 1)
    (X : s.Idx → Elt F e) (k : PUnit → PR nD τ sig Λ F) (A : sProp 𝕄)
    (hk : iprop(own c M (r.overlay X w) ∗ A) ⊢ WP defs c E (k ⟨⟩) Q) :
    iprop(own c M X ∗ A) ⊢ WP defs c E (Prog.lift (.store M r w Finset.univ hx hm) >>= k) Q := by
  unfold own owns at *
  iintro ⟨⟨%f, %hf, H⟩, HA⟩
  subst hf
  have h := wp_store (defs := defs) Variants.none (c.tc : Thread nD τ) none (Γ := ∅) E (Q := Q) (m := M) (r := r) (w := w) (Mk := Finset.univ) (hx := hx) (hm := hm) (k := k) (f := f)
    (S := M.view.set) ((View.setOn_subset_set _ _).trans (View.set_slice_subset _ _))
  ihave H' := h $$ H
  iapply H'
  iintro H
  iapply hk
  isplitl [H]
  · iexists _; isplitr; swap; (· iexact H)
    ipureintro
    funext y
    by_cases hy : y ∈ r.set
    · obtain ⟨x, rfl⟩ : ∃ x, r.emb x = y := r.exists_idx_of_mem hy
      rw [Rect.overlay_emb]
      exact View.read_slice_write_emb _ _ _ (Finset.mem_univ x)
    · rw [Rect.overlay_of_not_mem _ _ _ hy]
      exact View.read_slice_write_of_not_mem _ _ _ _ (by rwa [Rect.map_emb_univ])
  iexact HA

/-- One entailment after another. -/
theorem tr {A B C : sProp 𝕄} (h : A ⊢ B) (k : B ⊢ C) : A ⊢ C := h.trans k

/-- The second of six held parts is brought to the front. -/
theorem pull2 (A B C D G H : sProp 𝕄) : iprop(A ∗ B ∗ C ∗ D ∗ G ∗ H) ⊢ iprop(B ∗ A ∗ C ∗ D ∗ G ∗ H) := by
  iintro ⟨HA, HB, HC, HD, HG, HH⟩
  isplitl [HB]; · iexact HB
  isplitl [HA]; · iexact HA
  isplitl [HC]; · iexact HC
  isplitl [HD]; · iexact HD
  isplitl [HG]; · iexact HG
  iexact HH

/-- The part at the front is put back. -/
theorem push2 (A B C D G H : sProp 𝕄) : iprop(B ∗ A ∗ C ∗ D ∗ G ∗ H) ⊢ iprop(A ∗ B ∗ C ∗ D ∗ G ∗ H) := by
  iintro ⟨HB, HA, HC, HD, HG, HH⟩
  isplitl [HA]; · iexact HA
  isplitl [HB]; · iexact HB
  isplitl [HC]; · iexact HC
  isplitl [HD]; · iexact HD
  isplitl [HG]; · iexact HG
  iexact HH

/-- The third of six held parts is brought to the front. -/
theorem pull3 (A B C D G H : sProp 𝕄) : iprop(A ∗ B ∗ C ∗ D ∗ G ∗ H) ⊢ iprop(C ∗ A ∗ B ∗ D ∗ G ∗ H) := by
  iintro ⟨HA, HB, HC, HD, HG, HH⟩
  isplitl [HC]; · iexact HC
  isplitl [HA]; · iexact HA
  isplitl [HB]; · iexact HB
  isplitl [HD]; · iexact HD
  isplitl [HG]; · iexact HG
  iexact HH

/-- The part at the front is put back. -/
theorem push3 (A B C D G H : sProp 𝕄) : iprop(C ∗ A ∗ B ∗ D ∗ G ∗ H) ⊢ iprop(A ∗ B ∗ C ∗ D ∗ G ∗ H) := by
  iintro ⟨HC, HA, HB, HD, HG, HH⟩
  isplitl [HA]; · iexact HA
  isplitl [HB]; · iexact HB
  isplitl [HC]; · iexact HC
  isplitl [HD]; · iexact HD
  isplitl [HG]; · iexact HG
  iexact HH

/-- The fourth of six held parts is brought to the front. -/
theorem pull4 (A B C D G H : sProp 𝕄) : iprop(A ∗ B ∗ C ∗ D ∗ G ∗ H) ⊢ iprop(D ∗ A ∗ B ∗ C ∗ G ∗ H) := by
  iintro ⟨HA, HB, HC, HD, HG, HH⟩
  isplitl [HD]; · iexact HD
  isplitl [HA]; · iexact HA
  isplitl [HB]; · iexact HB
  isplitl [HC]; · iexact HC
  isplitl [HG]; · iexact HG
  iexact HH

/-- The part at the front is put back. -/
theorem push4 (A B C D G H : sProp 𝕄) : iprop(D ∗ A ∗ B ∗ C ∗ G ∗ H) ⊢ iprop(A ∗ B ∗ C ∗ D ∗ G ∗ H) := by
  iintro ⟨HD, HA, HB, HC, HG, HH⟩
  isplitl [HA]; · iexact HA
  isplitl [HB]; · iexact HB
  isplitl [HC]; · iexact HC
  isplitl [HD]; · iexact HD
  isplitl [HG]; · iexact HG
  iexact HH

/-- The fifth of six held parts is brought to the front. -/
theorem pull5 (A B C D G H : sProp 𝕄) : iprop(A ∗ B ∗ C ∗ D ∗ G ∗ H) ⊢ iprop(G ∗ A ∗ B ∗ C ∗ D ∗ H) := by
  iintro ⟨HA, HB, HC, HD, HG, HH⟩
  isplitl [HG]; · iexact HG
  isplitl [HA]; · iexact HA
  isplitl [HB]; · iexact HB
  isplitl [HC]; · iexact HC
  isplitl [HD]; · iexact HD
  iexact HH

/-- The part at the front is put back. -/
theorem push5 (A B C D G H : sProp 𝕄) : iprop(G ∗ A ∗ B ∗ C ∗ D ∗ H) ⊢ iprop(A ∗ B ∗ C ∗ D ∗ G ∗ H) := by
  iintro ⟨HG, HA, HB, HC, HD, HH⟩
  isplitl [HA]; · iexact HA
  isplitl [HB]; · iexact HB
  isplitl [HC]; · iexact HC
  isplitl [HD]; · iexact HD
  isplitl [HG]; · iexact HG
  iexact HH

/-! ## What the steps compute -/

/-- The rectangle of plane `p` in the scratch, of plane `(g, p)` in the input block, of weight `(g, o, p)`, of row `(g, o)` in
    the row maxima, of group `g` in the statistics. -/
abbrev rP (p : Fin 4) : Rect S4x64x380 := Rect.unit (s := S4x64x380) ![p.val, 0, 0] S1x64x380.size (inbP p)
abbrev rX (g : Fin 16) (p : Fin 4) : Rect S1x64x24320 := Rect.unit (s := S1x64x24320) ![0, 0, 1520 * g.val + 380 * p.val] S1x64x380.size (inbX g p)
/-- The rectangle of weight `(g, o, p)`. -/
abbrev rW (g : Fin 16) (o : Fin 8) (p : Fin 4) : Rect S16x8x4 := Rect.unit (s := S16x8x4) ![g.val, o.val, p.val] S1x1x1.size (inbW g o p)
/-- The rectangle of row `(g, o)` of the row maxima. -/
abbrev rS (g : Fin 16) (o : Fin 8) : Rect S1x16x8x16 := Rect.unit (s := S1x16x8x16) ![0, g.val, o.val, 0] S1x1x1x16.size (inbS g o)
/-- The rectangle of group `g` in the statistics. -/
abbrev rT (g : Fin 16) : Rect S16x2x8 := Rect.unit (s := S16x2x8) ![g.val, 0, 0] S1x2x8.size (inbT g)

/-- Plane `(g, p)` of the input block, as the copy stores it. -/
def plane (x : S1x64x24320.Idx → Elt F .f32) (g : Fin 16) (p : Fin 4) : Vec F S1x64x380 .f32 :=
  (shapeCast S1x64x380 (shapeCast S64x380 (View.ld x (rX g p) : Vec F S1x64x380 .f32) shapeCasts_S1x64x380_S64x380 : FVec F S64x380 .f32) shapeCasts_S64x380_S1x64x380 : FVec F S1x64x380 .f32)

/-- The weight of plane `p` in output `o` of group `g`, as loaded. -/
def weight (w : S16x8x4.Idx → Elt F .f32) (g : Fin 16) (o : Fin 8) (p : Fin 4) : Vec F S1x1x1 .f32 := View.ld w (rW g o p)

/-- Output `o` of group `g`: the weighted sum of the group's four planes. -/
def acc (w : S16x8x4.Idx → Elt F .f32) (x : S1x64x24320.Idx → Elt F .f32) (g : Fin 16) (o : Fin 8) : FVec F S64x380 .f32 :=
  comb (weight w g o 0) (plane x g 0) (weight w g o 1) (plane x g 1) (weight w g o 2) (plane x g 2) (weight w g o 3) (plane x g 3)

/-- The sums and the sums of squares of group `g`'s eight outputs. -/
def part (w : S16x8x4.Idx → Elt F .f32) (x : S1x64x24320.Idx → Elt F .f32) (g : Fin 16) : FVec F S2x8 .f32 :=
  partOf ![sumOf (acc w x g 0), sumOf (acc w x g 1), sumOf (acc w x g 2), sumOf (acc w x g 3), sumOf (acc w x g 4), sumOf (acc w x g 5), sumOf (acc w x g 6), sumOf (acc w x g 7)]
    ![sumOf (mulf (acc w x g 0) (acc w x g 0)), sumOf (mulf (acc w x g 1) (acc w x g 1)), sumOf (mulf (acc w x g 2) (acc w x g 2)), sumOf (mulf (acc w x g 3) (acc w x g 3)), sumOf (mulf (acc w x g 4) (acc w x g 4)), sumOf (mulf (acc w x g 5) (acc w x g 5)), sumOf (mulf (acc w x g 6) (acc w x g 6)), sumOf (mulf (acc w x g 7) (acc w x g 7))]

/-- The row maxima after group `g`'s output `o` has been stored. -/
def row (neg : F .f32) (w : S16x8x4.Idx → Elt F .f32) (x : S1x64x24320.Idx → Elt F .f32) (g : Fin 16) (o : Fin 8) (R : S1x16x8x16.Idx → Elt F .f32) : S1x16x8x16.Idx → Elt F .f32 :=
  (rS g o).overlay R (shapeCast S1x1x1x16 (rowOf neg (acc w x g o)) shapeCasts_S16_S1x1x1x16 : FVec F S1x1x1x16 .f32)

/-- The row maxima after group `g`. -/
def rows (neg : F .f32) (w : S16x8x4.Idx → Elt F .f32) (x : S1x64x24320.Idx → Elt F .f32) (g : Fin 16) (R : S1x16x8x16.Idx → Elt F .f32) : S1x16x8x16.Idx → Elt F .f32 :=
  row neg w x g 7 (row neg w x g 6 (row neg w x g 5 (row neg w x g 4 (row neg w x g 3 (row neg w x g 2 (row neg w x g 1 (row neg w x g 0 R)))))))

/-- The statistics after group `g`. -/
def stat (first : Bool) (w : S16x8x4.Idx → Elt F .f32) (x : S1x64x24320.Idx → Elt F .f32) (g : Fin 16) (S : S16x2x8.Idx → Elt F .f32) : S16x2x8.Idx → Elt F .f32 :=
  match first with
  | true => (rT g).overlay S (shapeCast S1x2x8 (part w x g) shapeCasts_S2x8_S1x2x8 : FVec F S1x2x8 .f32)
  | false => (rT g).overlay S (shapeCast S1x2x8 (addf (shapeCast S2x8 (View.ld S (rT g) : Vec F S1x2x8 .f32) shapeCasts_S1x2x8_S2x8 : FVec F S2x8 .f32) (part w x g)) shapeCasts_S2x8_S1x2x8 : FVec F S1x2x8 .f32)

/-! ## The steps, run -/

variable (neg : F .f32) (arg1 : Memref sig .tc .smem S16x8x4 .f32) (arg2 : Memref sig .tc .vmem S1x64x24320 .f32) (arg3 : Memref sig .tc .vmem S16x2x8 .f32) (arg4 : Memref sig .tc .vmem S1x16x8x16 .f32) (arg5 : Memref sig .tc .vmem S4x64x380 .f32)

/-- The five memrefs held at these contents, beside `A`. -/
abbrev St (w : S16x8x4.Idx → Elt F .f32) (x : S1x64x24320.Idx → Elt F .f32) (S : S16x2x8.Idx → Elt F .f32) (R : S1x16x8x16.Idx → Elt F .f32) (P : S4x64x380.Idx → Elt F .f32) (A : sProp 𝕄) : sProp 𝕄 :=
  iprop(own c arg1 w ∗ own c arg2 x ∗ own c arg3 S ∗ own c arg4 R ∗ own c arg5 P ∗ A)

variable {w : S16x8x4.Idx → Elt F .f32} {x : S1x64x24320.Idx → Elt F .f32} {S : S16x2x8.Idx → Elt F .f32} {R : S1x16x8x16.Idx → Elt F .f32} {P : S4x64x380.Idx → Elt F .f32} {H : sProp (MT nD τ sig Ix (Elt F) Name U Lvl)}

/-- A copy puts the plane into the scratch. -/
theorem wp_copyStep (g : Fin 16) (p : Fin 4) (k : PR nD τ sig Λ F)
    (hk : St c arg1 arg2 arg3 arg4 arg5 w x S R ((rP p).overlay P (plane x g p)) H ⊢ WP defs c E k Q) :
    St c arg1 arg2 arg3 arg4 arg5 w x S R P H ⊢ WP defs c E (copyStep arg2 arg5 g p k) Q :=
  tr (pull2 _ _ _ _ _ _) <| own_load c E arg2 (rX g p) _ x _ _ <| tr (push2 _ _ _ _ _ _) <| tr (pull5 _ _ _ _ _ _) <| own_load c E arg5 (rP p) _ P _ _ <|
    own_store c E arg5 (rP p) _ _ _ P _ _ <| tr (push5 _ _ _ _ _ _) hk

/-- A weight and a plane are loaded. -/
theorem wp_pair (g : Fin 16) (o : Fin 8) (p : Fin 4) (k : Vec F S1x1x1 .f32 → Vec F S1x64x380 .f32 → PR nD τ sig Λ F)
    (hP : View.ld P (rP p) = plane x g p)
    (hk : St c arg1 arg2 arg3 arg4 arg5 w x S R P H ⊢ WP defs c E (k (weight w g o p) (plane x g p)) Q) :
    St c arg1 arg2 arg3 arg4 arg5 w x S R P H ⊢ WP defs c E (pair arg1 arg5 g o p k) Q := by
  rw [← hP] at hk
  exact own_load c E arg1 (rW g o p) _ w _ _ <| tr (pull5 _ _ _ _ _ _) <| own_load c E arg5 (rP p) _ P _ _ <| tr (push5 _ _ _ _ _ _) hk

/-- A row of maxima is stored. -/
theorem wp_rowStep (g : Fin 16) (o : Fin 8) (a : FVec F S64x380 .f32) (k : PUnit → PR nD τ sig Λ F)
    (hk : St c arg1 arg2 arg3 arg4 arg5 w x S ((rS g o).overlay R (shapeCast S1x1x1x16 (rowOf neg a) shapeCasts_S16_S1x1x1x16 : FVec F S1x1x1x16 .f32)) P H ⊢ WP defs c E (k ⟨⟩) Q) :
    St c arg1 arg2 arg3 arg4 arg5 w x S R P H ⊢ WP defs c E (rowStep neg arg4 g o a k) Q :=
  tr (pull4 _ _ _ _ _ _) <| own_load c E arg4 (rS g o) _ R _ _ <| own_store c E arg4 (rS g o) _ _ _ R _ _ <| tr (push4 _ _ _ _ _ _) hk

/-- An output is computed and its row of maxima stored. -/
theorem wp_outStep' (g : Fin 16) (o : Fin 8) (k : F .f32 → F .f32 → PR nD τ sig Λ F) (hP : ∀ p, View.ld P (rP p) = plane x g p)
    (hk : St c arg1 arg2 arg3 arg4 arg5 w x S (row neg w x g o R) P H ⊢ WP defs c E (k (sumOf (acc w x g o)) (sumOf (mulf (acc w x g o) (acc w x g o)))) Q) :
    St c arg1 arg2 arg3 arg4 arg5 w x S R P H ⊢ WP defs c E (outStep' neg arg1 arg4 arg5 g o k) Q :=
  wp_pair c E _ _ _ _ _ g o 0 _ (hP 0) <| wp_pair c E _ _ _ _ _ g o 1 _ (hP 1) <| wp_pair c E _ _ _ _ _ g o 2 _ (hP 2) <| wp_pair c E _ _ _ _ _ g o 3 _ (hP 3) <|
    wp_rowStep c E neg _ _ _ _ _ g o _ _ hk

/-- A group's sums are stored, or added to what is there. -/
theorem wp_statStep (first : Bool) (g : Fin 16) (k : PUnit → PR nD τ sig Λ F)
    (hk : St c arg1 arg2 arg3 arg4 arg5 w x (stat first w x g S) R P H ⊢ WP defs c E (k ⟨⟩) Q) :
    St c arg1 arg2 arg3 arg4 arg5 w x S R P H ⊢ WP defs c E (statStep arg3 first g (part w x g) k) Q := by
  cases first with
  | true => exact tr (pull3 _ _ _ _ _ _) <| own_load c E arg3 (rT g) _ S _ _ <| own_store c E arg3 (rT g) _ _ _ S _ _ <| tr (push3 _ _ _ _ _ _) hk
  | false => exact tr (pull3 _ _ _ _ _ _) <| own_load c E arg3 (rT g) _ S _ _ <| own_load c E arg3 (rT g) _ S _ _ <| own_store c E arg3 (rT g) _ _ _ S _ _ <| tr (push3 _ _ _ _ _ _) hk

/-- Plane `p` of a scratch another plane of which has been stored. -/
theorem ld_overlay_ne (p q : Fin 4) (h : p ≠ q) (P : S4x64x380.Idx → Elt F .f32) (v : (rP q).shape.Idx → Elt F .f32) :
    View.ld ((rP q).overlay P v) (rP p) = View.ld P (rP p) := by
  funext j
  refine Rect.overlay_of_not_mem _ _ _ fun hm => h ?_
  have h0 := (Rect.mem_set_unit.mp hm) 0
  have h1 : ((rP p).idx j 0).val = p.val + 1 * (j 0).val := rfl
  have h2 : (j 0).val < 1 := (j 0).isLt
  have h3 : q.val ≤ ((rP p).idx j 0).val ∧ ((rP p).idx j 0).val < q.val + 1 := h0
  exact Fin.ext (by omega)

/-- A load where something has just been stored reads what was stored. -/
theorem ld_overlay_eq (p : Fin 4) (P : S4x64x380.Idx → Elt F .f32) (v : (rP p).shape.Idx → Elt F .f32) :
    View.ld ((rP p).overlay P v) (rP p) = v :=
  funext fun j => Rect.overlay_emb _ _ _ j

/-- A group step: the four planes in the scratch, the group's rows of maxima and its statistics stored. -/
theorem wp_groupStep (first : Bool) (g : Fin 16) (k : PUnit → PR nD τ sig Λ F)
    (hk : ∀ P', St c arg1 arg2 arg3 arg4 arg5 w x (stat first w x g S) (rows neg w x g R) P' H ⊢ WP defs c E (k ⟨⟩) Q) :
    St c arg1 arg2 arg3 arg4 arg5 w x S R P H ⊢ WP defs c E (groupStep neg arg1 arg2 arg3 arg4 arg5 first g k) Q := by
  refine wp_copyStep c E _ _ _ _ _ g 0 _ <| wp_copyStep c E _ _ _ _ _ g 1 _ <| wp_copyStep c E _ _ _ _ _ g 2 _ <| wp_copyStep c E _ _ _ _ _ g 3 _ ?_
  have hP : ∀ p, View.ld ((rP 3).overlay ((rP 2).overlay ((rP 1).overlay ((rP 0).overlay P (plane x g 0)) (plane x g 1)) (plane x g 2)) (plane x g 3)) (rP p) = plane x g p := by
    intro p
    fin_cases p
    · exact (ld_overlay_ne 0 3 (by decide) _ _).trans <| (ld_overlay_ne 0 2 (by decide) _ _).trans <| (ld_overlay_ne 0 1 (by decide) _ _).trans <| ld_overlay_eq 0 _ _
    · exact (ld_overlay_ne 1 3 (by decide) _ _).trans <| (ld_overlay_ne 1 2 (by decide) _ _).trans <| ld_overlay_eq 1 _ _
    · exact (ld_overlay_ne 2 3 (by decide) _ _).trans <| ld_overlay_eq 2 _ _
    · exact ld_overlay_eq 3 _ _
  refine wp_outStep' c E neg _ _ _ _ _ g 0 _ hP <| wp_outStep' c E neg _ _ _ _ _ g 1 _ hP <| wp_outStep' c E neg _ _ _ _ _ g 2 _ hP <| wp_outStep' c E neg _ _ _ _ _ g 3 _ hP <|
    wp_outStep' c E neg _ _ _ _ _ g 4 _ hP <| wp_outStep' c E neg _ _ _ _ _ g 5 _ hP <| wp_outStep' c E neg _ _ _ _ _ g 6 _ hP <| wp_outStep' c E neg _ _ _ _ _ g 7 _ hP <|
    wp_statStep c E _ _ _ _ _ first g _ (hk _)

/-- The row maxima, and the statistics, after a list of groups. -/
def rowsRun (neg : F .f32) (w : S16x8x4.Idx → Elt F .f32) (x : S1x64x24320.Idx → Elt F .f32) : List (Fin 16) → (S1x16x8x16.Idx → Elt F .f32) → S1x16x8x16.Idx → Elt F .f32
  | [], R => R
  | g :: gs, R => rowsRun neg w x gs (rows neg w x g R)

/-- The statistics after a list of groups. -/
def statRun (first : Bool) (w : S16x8x4.Idx → Elt F .f32) (x : S1x64x24320.Idx → Elt F .f32) : List (Fin 16) → (S16x2x8.Idx → Elt F .f32) → S16x2x8.Idx → Elt F .f32
  | [], S => S
  | g :: gs, S => statRun first w x gs (stat first w x g S)

/-- The group steps of a list, in order. -/
theorem wp_run (first : Bool) (gs : List (Fin 16)) : ∀ (S : S16x2x8.Idx → Elt F .f32) (R : S1x16x8x16.Idx → Elt F .f32) (P : S4x64x380.Idx → Elt F .f32)
    (hk : ∀ P', St c arg1 arg2 arg3 arg4 arg5 w x (statRun first w x gs S) (rowsRun neg w x gs R) P' H ⊢ Q ⟨⟩),
    St c arg1 arg2 arg3 arg4 arg5 w x S R P H ⊢ WP defs c E (run neg arg1 arg2 arg3 arg4 arg5 first gs ⟨⟩) Q := by
  induction gs with
  | nil => exact fun S R P hk => (hk P).trans (le_wp_ret _ _ _ _ _)
  | cons g gs ih => exact fun S R P hk => wp_groupStep c E neg _ _ _ _ _ first g _ fun P' => ih _ _ _ hk

end Cert.Steps

end
-- ==== Proof.Closed.lean ====
/-
  What the sixteen group steps leave, entry by entry: the row maxima do not depend on what was there before, and neither do the
  statistics at the first grid point; later each statistic depends only on its own old value.
-/
module

public import proofs.«01_k».proof.Proof.Spec

@[expose] public section

noncomputable section

namespace Cert.Steps

open Cert.KernelIdeal
open Idealize.ShloMosaic
open Facts₀ Facts

variable {F : FTy → Type} [FloatOps F] [Facts]
variable (neg : F .f32) (w : S16x8x4.Idx → Elt F .f32) (x : S1x64x24320.Idx → Elt F .f32)

/-- The groups, in the order the body takes them. -/
abbrev groups : List (Fin 16) := [0, 1, 2, 3, 4, 5, 6, 7, 8, 9, 10, 11, 12, 13, 14, 15]

/-- The list of the groups holds every group. -/
theorem mem_groups (g : Fin 16) : g ∈ groups := by revert g; decide

/-- The group and the output a row of maxima is of, the group a statistic is of. -/
abbrev gOf (i : S1x16x8x16.Idx) : Fin 16 := i 1
abbrev oOf (i : S1x16x8x16.Idx) : Fin 8 := i 2
abbrev hOf (i : S16x2x8.Idx) : Fin 16 := i 0

/-- The place within a row of maxima, and within a group's statistics. -/
def lowR (i : S1x16x8x16.Idx) : S1x1x1x16.Idx := fun a => match a with
  | 0 => (0 : Fin 1)
  | 1 => (0 : Fin 1)
  | 2 => (0 : Fin 1)
  | 3 => (i 3 : Fin 16)
/-- The place within a group's statistics. -/
def lowT (i : S16x2x8.Idx) : S1x2x8.Idx := fun a => match a with
  | 0 => (0 : Fin 1)
  | 1 => (i 1 : Fin 2)
  | 2 => (i 2 : Fin 8)

/-- A row of maxima as stored. -/
def rowVal (g : Fin 16) (o : Fin 8) : FVec F S1x1x1x16 .f32 :=
  shapeCast S1x1x1x16 (rowOf neg (acc w x g o)) shapeCasts_S16_S1x1x1x16

/-- Every row of maxima. -/
def rowsAll : S1x16x8x16.Idx → Elt F .f32 := fun i => rowVal neg w x (gOf i) (oOf i) (lowR i)

/-- Storing one row changes that row alone. -/
theorem row_apply (g : Fin 16) (o : Fin 8) (R : S1x16x8x16.Idx → Elt F .f32) (i : S1x16x8x16.Idx) :
    row neg w x g o R i = if gOf i = g ∧ oOf i = o then rowsAll neg w x i else R i := by
  unfold row
  split
  · rename_i h
    obtain ⟨h1, h2⟩ := h
    have hm : i ∈ (rS g o).set := Rect.mem_set_unit.mpr fun a => by
      have h := (i a).isLt
      fin_cases a
      · exact ⟨Nat.zero_le _, h⟩
      · subst h1; exact ⟨Nat.le_refl _, Nat.lt_succ_self _⟩
      · subst h2; exact ⟨Nat.le_refl _, Nat.lt_succ_self _⟩
      · exact ⟨Nat.zero_le _, h⟩
    obtain ⟨j, rfl⟩ := (rS g o).exists_idx_of_mem hm
    refine (Rect.overlay_emb _ _ _ j).trans ?_
    unfold rowsAll
    rw [h1, h2]
    refine congrArg (rowVal neg w x g o) (funext fun a => Fin.ext ?_)
    have hj := (j a).isLt
    fin_cases a
    · have : (j 0).val < 1 := hj
      show (j 0).val = 0; omega
    · have : (j 1).val < 1 := hj
      show (j 1).val = 0; omega
    · have : (j 2).val < 1 := hj
      show (j 2).val = 0; omega
    · show (j 3).val = 0 + 1 * (j 3).val; omega
  · rename_i h
    refine Rect.overlay_of_not_mem _ _ _ fun hm => h ?_
    have hm := Rect.mem_set_unit.mp hm
    have a1 : g.val ≤ (gOf i).val ∧ (gOf i).val < g.val + 1 := hm 1
    have a2 : o.val ≤ (oOf i).val ∧ (oOf i).val < o.val + 1 := hm 2
    exact ⟨Fin.ext (by omega), Fin.ext (by omega)⟩

/-- Storing a group's rows changes that group's alone. -/
theorem rows_apply (g : Fin 16) (R : S1x16x8x16.Idx → Elt F .f32) (i : S1x16x8x16.Idx) :
    rows neg w x g R i = if gOf i = g then rowsAll neg w x i else R i := by
  unfold rows
  simp only [row_apply]
  by_cases h : gOf i = g
  · simp only [h, true_and, if_true]
    have : ∀ o : Fin 8, o = 0 ∨ o = 1 ∨ o = 2 ∨ o = 3 ∨ o = 4 ∨ o = 5 ∨ o = 6 ∨ o = 7 := by decide
    rcases this (oOf i) with h | h | h | h | h | h | h | h <;> rw [h] <;> simp
  · simp only [h, false_and, if_false]

/-- After a list of groups the rows of those groups are the closed form. -/
theorem rowsRun_apply (gs : List (Fin 16)) (i : S1x16x8x16.Idx) : ∀ R : S1x16x8x16.Idx → Elt F .f32,
    rowsRun neg w x gs R i = if gOf i ∈ gs then rowsAll neg w x i else R i := by
  induction gs with
  | nil => intro R; simp [rowsRun]
  | cons g gs ih =>
    intro R
    unfold rowsRun
    rw [ih, rows_apply]
    by_cases h : gOf i = g <;> by_cases h' : gOf i ∈ gs <;> simp [h, h']

/-- The rows of maxima after the sixteen groups, whatever was there. -/
theorem rowsRun_groups (R : S1x16x8x16.Idx → Elt F .f32) : rowsRun neg w x groups R = rowsAll neg w x := by
  funext i; rw [rowsRun_apply, if_pos (mem_groups _)]

/-- A group's statistics as stored, from what was there. -/
def statVal (first : Bool) (S : S16x2x8.Idx → Elt F .f32) (g : Fin 16) : FVec F S1x2x8 .f32 :=
  match first with
  | true => shapeCast S1x2x8 (part w x g) shapeCasts_S2x8_S1x2x8
  | false => shapeCast S1x2x8 (addf (shapeCast S2x8 (View.ld S (rT g) : Vec F S1x2x8 .f32) shapeCasts_S1x2x8_S2x8 : FVec F S2x8 .f32) (part w x g)) shapeCasts_S2x8_S1x2x8

/-- Every group's statistics. -/
def statAll (first : Bool) (S : S16x2x8.Idx → Elt F .f32) : S16x2x8.Idx → Elt F .f32 := fun i => statVal w x first S (hOf i) (lowT i)

/-- A group's statistics are stored as one block. -/
theorem stat_eq (first : Bool) (g : Fin 16) (S : S16x2x8.Idx → Elt F .f32) :
    stat first w x g S = (rT g).overlay S (statVal w x first S g) := by
  cases first <;> rfl

/-- Storing a group's statistics changes that group's entries alone. -/
theorem stat_apply (first : Bool) (g : Fin 16) (S : S16x2x8.Idx → Elt F .f32) (i : S16x2x8.Idx) :
    stat first w x g S i = if hOf i = g then statAll w x first S i else S i := by
  rw [stat_eq]
  split
  · rename_i h1
    have hm : i ∈ (rT g).set := Rect.mem_set_unit.mpr fun a => by
      have h := (i a).isLt
      fin_cases a
      · subst h1; exact ⟨Nat.le_refl _, Nat.lt_succ_self _⟩
      · exact ⟨Nat.zero_le _, h⟩
      · exact ⟨Nat.zero_le _, h⟩
    obtain ⟨j, rfl⟩ := (rT g).exists_idx_of_mem hm
    refine (Rect.overlay_emb _ _ _ j).trans ?_
    unfold statAll
    rw [h1]
    refine congrArg (statVal w x first S g) (funext fun a => Fin.ext ?_)
    have hj := (j a).isLt
    fin_cases a
    · have : (j 0).val < 1 := hj
      show (j 0).val = 0; omega
    · show (j 1).val = 0 + 1 * (j 1).val; omega
    · show (j 2).val = 0 + 1 * (j 2).val; omega
  · rename_i h
    refine Rect.overlay_of_not_mem _ _ _ fun hm => h ?_
    have a1 : g.val ≤ (hOf i).val ∧ (hOf i).val < g.val + 1 := (Rect.mem_set_unit.mp hm) 0
    exact Fin.ext (by omega)

/-- Another group's statistics are unaffected. -/
theorem statVal_stat (first : Bool) (S : S16x2x8.Idx → Elt F .f32) (g g' : Fin 16) (h : g' ≠ g) :
    statVal w x first (stat first w x g S) g' = statVal w x first S g' := by
  have hl : View.ld (stat first w x g S) (rT g') = View.ld S (rT g') := by
    funext j
    show stat first w x g S ((rT g').emb j) = S ((rT g').emb j)
    rw [stat_apply, if_neg]
    intro e
    have e : (hOf ((rT g').emb j)).val = g.val := congrArg Fin.val e
    have he : (hOf ((rT g').emb j)).val = g'.val + 1 * (j 0).val := rfl
    have hj : (j 0).val < 1 := (j 0).isLt
    exact h (Fin.ext (by omega))
  cases first
  · unfold statVal; simp only [hl]
  · rfl

/-- After a list of different groups the statistics of those groups are the closed form. -/
theorem statRun_apply (first : Bool) (gs : List (Fin 16)) (hn : gs.Nodup) (i : S16x2x8.Idx) : ∀ S : S16x2x8.Idx → Elt F .f32,
    statRun first w x gs S i = if hOf i ∈ gs then statAll w x first S i else S i := by
  induction gs with
  | nil => intro S; simp [statRun]
  | cons g gs ih =>
    intro S
    have hg : g ∉ gs := (List.nodup_cons.mp hn).1
    unfold statRun
    rw [ih (List.nodup_cons.mp hn).2]
    by_cases h : hOf i = g
    · have h' : hOf i ∉ gs := h ▸ hg
      have h'' : hOf i ∈ g :: gs := h ▸ List.mem_cons_self
      rw [if_neg h', if_pos h'', stat_apply, if_pos h]
    · by_cases h' : hOf i ∈ gs
      · rw [if_pos h', if_pos (List.mem_cons_of_mem _ h')]
        unfold statAll
        rw [statVal_stat _ _ _ _ _ _ h]
      · rw [if_neg h', if_neg (by simp [h, h']), stat_apply, if_neg h]

/-- The statistics after the sixteen groups. -/
theorem statRun_groups (first : Bool) (S : S16x2x8.Idx → Elt F .f32) : statRun first w x groups S = statAll w x first S := by
  funext i; rw [statRun_apply _ _ _ _ (by decide), if_pos (mem_groups _)]

/-- At the first point the statistics do not depend on what was there. -/
theorem statAll_true (S S' : S16x2x8.Idx → Elt F .f32) : statAll w x true S = statAll w x true S' := rfl

section Run

open Idealize.ShloMosaic.TcCoe Idealize.SL Idealize.SL.RA Idealize.SL.BI Idealize.SL.Sem
open scoped Idealize.SL.BI
open Idealize.SL.BI.BIBase Idealize.SL.BI.Laws Idealize.SL.ProofMode

variable {nD : Nat} {τ : Topo} {sig : RefSig} {Λ : Labels} {defs : Defs nD τ sig (Elt F) Λ}
variable {Ix : Type} [DecidableEq Ix] {Name : Type} [DecidableEq Name] {U : Type} [URA U] {Lvl : Type} [Preorder Lvl]
variable (c : Dev nD) (E : Set Name)

/-- The sixteen group steps, from the five memrefs held: the weights and the block as they were, the statistics and the row
    maxima stored. -/
theorem wp_groups (arg1 : Memref sig .tc .smem S16x8x4 .f32) (arg2 : Memref sig .tc .vmem S1x64x24320 .f32) (arg3 : Memref sig .tc .vmem S16x2x8 .f32) (arg4 : Memref sig .tc .vmem S1x16x8x16 .f32) (arg5 : Memref sig .tc .vmem S4x64x380 .f32)
    (first : Bool) (S : S16x2x8.Idx → Elt F .f32) (R : S1x16x8x16.Idx → Elt F .f32) (P : S4x64x380.Idx → Elt F .f32) (Q : PUnit → sProp (MT nD τ sig Ix (Elt F) Name U Lvl)) :
    iprop(own c arg1 w ∗ own c arg2 x ∗ own c arg3 S ∗ own c arg4 R ∗ own c arg5 P
        ∗ (∀ P', iprop(own c arg1 w ∗ own c arg2 x ∗ own c arg3 (statAll w x first S) ∗ own c arg4 (rowsAll neg w x) ∗ own c arg5 P') -∗ Q ⟨⟩))
      ⊢ WP defs c E (run neg arg1 arg2 arg3 arg4 arg5 first groups ⟨⟩) Q := by
  refine wp_run c E neg arg1 arg2 arg3 arg4 arg5 first groups S R P fun P' => ?_
  rw [statRun_groups, rowsRun_groups]
  iintro ⟨H1, H2, H3, H4, H5, Hk⟩
  iapply Hk $$ %P'
  isplitl [H1]; · iexact H1
  isplitl [H2]; · iexact H2
  isplitl [H3]; · iexact H3
  isplitl [H4]; · iexact H4
  iexact H5

end Run

end Cert.Steps

end
-- ==== Proof.RegionA.lean ====
/-
  The first pass as a region of the program: at each of the eight grid points the body takes a batch element's block and
  leaves its row maxima, and the statistics of the batch elements so far.
-/
module

public import proofs.«01_k».proof.Proof.Closed
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.FrameBody

@[expose] public section

noncomputable section

namespace Cert.KernelIdeal.PassA

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

/-- The resource algebra: the pipeline library's beside the transfers' counters. -/
abbrev UU : Type := UR sig nD τ × Counters

local notation "𝕄" => MT nD τ sig Unit (Elt F) ℕ UU ℕ

/-- The stand-in for minus infinity in the row maxima. -/
abbrev neg : F .f32 := Named.named κ "neg" 0xFF61B1E6#32

variable (V : (c : Dev nD) → Valuation τ sig (Elt F))

/-- The weights, and batch element `t`'s block of the input, as the body finds them. -/
def wBlk (c : Dev nD) (t : Fin cfg0.N) : S16x8x4.Idx → Elt F .f32 := ((cfg0.win 0).blk t).view.read (Elt F) (V c (Pipeline.arrRef spec0 0))
/-- Batch element `t`'s block of the input, as the body finds it. -/
def xBlk (c : Dev nD) (t : Fin cfg0.N) : S1x64x24320.Idx → Elt F .f32 := ((cfg0.win 1).blk t).view.read (Elt F) (V c (Pipeline.arrRef spec0 1))

/-- The statistics after the batch elements up to the `n`-th. -/
def statsAt (c : Dev nD) : (n : Nat) → n < cfg0.N → S16x2x8.Idx → Elt F .f32
  | 0, h => Steps.statAll (wBlk V c ⟨0, h⟩) (xBlk V c ⟨0, h⟩) true fun _ => neg
  | n + 1, h => Steps.statAll (wBlk V c ⟨n + 1, h⟩) (xBlk V c ⟨n + 1, h⟩) false (statsAt c n (Nat.lt_of_succ_lt h))

/-- The scoped buffers the pass does not stage, the scratch among them, held at something. -/
abbrev Φc (c : Dev nD) : sProp 𝕄 := Pipeline.scopedRest (Ix := Unit) (Name := ℕ) (U := UU) (Lvl := ℕ) (Val := Elt F) spec0 c

/-- The proof data of the pass entered from `V`: each input's block left in place, the statistics so far, the point's row
    maxima. -/
def dat (c : Dev nD) : Dat τ (Elt F) Unit ℕ UU ℕ cfg0 c where
  A w := V c (Pipeline.arrRef spec0 w)
  after w t := match w with
    | ⟨0, _⟩ => wBlk V c t
    | ⟨1, _⟩ => xBlk V c t
    | ⟨2, _⟩ => statsAt V c t.val t.isLt
    | ⟨3, _⟩ => Steps.rowsAll neg (wBlk V c t) (xBlk V c t)
  Φ _ := Φc c
  q _ := fullShare
  owed _ := 0

/-- Before the body runs the weights are staged. -/
theorem before_W (c : Dev nD) (t : Fin cfg0.N) (d : (cfg0.win 0).block.Idx → Elt F (cfg0.win 0).elt) : (dat V c).before 0 t d = wBlk V c t :=
  (dat V c).before_in_eq_fetched 0 rfl (fun _ => rfl) (fun _ _ _ => rfl) (fun _ => rfl) t d

/-- Before the body runs the input is staged. -/
theorem before_x (c : Dev nD) (t : Fin cfg0.N) (d : (cfg0.win 1).block.Idx → Elt F (cfg0.win 1).elt) : (dat V c).before 1 t d = xBlk V c t :=
  (dat V c).before_in_eq_fetched 1 rfl (fun _ => rfl) (fun _ _ _ => rfl) (fun _ => rfl) t d

/-- One of the first group's two guards holds at every grid point: -/
theorem guard_holds (i : grid0.Coords) : k0_cond1 i = 1#1 ∨ k0_cond2 i = 1#1 := by
  unfold k0_cond1 k0_cond2
  generalize i 0 = a
  revert a
  decide

/-- so the statistics' block is stored at every point. -/
theorem live_stats (i : grid0.Coords) : cfg0.idle 2 i = false := by
  show idle0 2 i = false
  rcases guard_holds i with h | h <;> simp only [idle0, h, beq_self_eq_true, Bool.not_true, Bool.false_and, Bool.and_false]

/-- From the second point on the statistics so far are staged before the body runs. -/
theorem before_stats (c : Dev nD) (n : Nat) (h : n + 1 < cfg0.N) (d : (cfg0.win 2).block.Idx → Elt F (cfg0.win 2).elt) :
    (dat V c).before 2 ⟨n + 1, h⟩ d = statsAt V c n (Nat.lt_of_succ_lt h) := by
  refine ((dat V c).before_out_kept 2 rfl ⟨n + 1, h⟩ (Nat.succ_ne_zero _) ?_ live_stats (fun _ _ => rfl) d).trans rfl
  rw [Bool.eq_false_iff]
  intro hf
  have := (flush0_2 _).mp hf
  have h8 : n + 1 < 8 := N_0 ▸ h
  have : n % 8 = 7 := this
  omega

/-- A point's coordinate is its number. -/
theorem coords_val : ∀ t : Fin cfg0.N, ((grid0.coords t) 0).val = t.val := by decide

/-- What the body leaves in the statistics, from what it finds. -/
theorem stats_step (c : Dev nD) (t : Fin cfg0.N) (d : (cfg0.win 2).block.Idx → Elt F (cfg0.win 2).elt) :
    Steps.statAll (wBlk V c t) (xBlk V c t) (decide (((grid0.coords t) 0).val = 0)) ((dat V c).before 2 t d) = statsAt V c t.val t.isLt := by
  rw [coords_val]
  obtain ⟨n, h⟩ := t
  cases n with
  | zero => rfl
  | succ n => rw [before_stats]; rfl

/-- The printed body is the sixteen group steps, storing the statistics at the first point and adding to them later. -/
def BodyEq (F : FTy → Type) [FloatOps F] [Named F] : Prop :=
  ∀ (i : grid0.Coords) (arg1 : Memref sig .tc .smem S16x8x4 .f32) (harg1 : arg1.IsWhole) (arg2 : Memref sig .tc .vmem S1x64x24320 .f32) (harg2 : arg2.IsWhole) (arg3 : Memref sig .tc .vmem S16x2x8 .f32) (harg3 : arg3.IsWhole) (arg4 : Memref sig .tc .vmem S1x16x8x16 .f32) (harg4 : arg4.IsWhole) (arg5 : Memref sig .tc .vmem S4x64x380 .f32) (harg5 : arg5.IsWhole),
    cc0__pass_a_body (F := F) i arg1 harg1 arg2 harg2 arg3 harg3 arg4 harg4 arg5 harg5
      = Steps.run neg arg1 arg2 arg3 arg4 arg5 (decide ((i 0).val = 0)) Steps.groups ⟨⟩

/-- No loop of the launch has a variant. -/
abbrev 𝒱₀ : Variants := Variants.none

/-- The body at every grid point. -/
theorem body_obligation (hb : BodyEq F) (c : Dev nD) : BodyObligation (dat V c) (defs₀ (F := F)) 𝒱₀ () Set.univ := fun t => by
  rw [bigSep_W0, bigSep_W0]
  rw [show (dat V c).Φ t.castSucc = Φc c from rfl, show (dat V c).Φ t.succ = Φc c from rfl,
    show (dat V c).owesAt () t.succ = (dat V c).owesAt () t.castSucc from rfl]
  unfold Φc
  rw [scopedRest0_eq]
  iintro ⟨⟨⟨%fs, Hs⟩, HΦ⟩, Howes, ⟨%d0, H0⟩, ⟨%d1, H1⟩, ⟨%d2, H2⟩, ⟨%d3, H3⟩⟩
  rw [before_W, before_x]
  have hbt : defs₀ (F := F) .tc cfg0.body (cfg0.bodyArgs t (cfg0.slots t))
      = Steps.run neg (st0_0 t) (st0_1 t) (st0_2 t) (st0_3 t) (Memref.whole cc0_scratch0) (decide (((grid0.coords t) 0).val = 0)) Steps.groups ⟨⟩ :=
    hb (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)
  rw [hbt]
  iapply (Steps.wp_groups neg (wBlk V c t) (xBlk V c t) c Set.univ (st0_0 t) (st0_1 t) (st0_2 t) (st0_3 t) (Memref.whole cc0_scratch0)
    (decide (((grid0.coords t) 0).val = 0)) ((dat V c).before 2 t d2) ((dat V c).before 3 t d3) fs)
  isplitl [H0]; · iexact H0
  isplitl [H1]; · iexact H1
  isplitl [H2]; · iexact H2
  isplitl [H3]; · iexact H3
  isplitl [Hs]
  · iapply (Entails.of_eq (owns_whole_eq c.tc cc0_scratch0 fullShare fs).symm)
    iexists fs; isplitr; swap; (· iexact Hs); ipureintro; rfl
  iintro %P' ⟨H0, H1, H2, H3, Hs⟩
  ihave Hs := (Entails.of_eq (owns_whole_eq c.tc cc0_scratch0 fullShare P')) $$ Hs
  icases Hs with ⟨%f', -, Hs⟩
  rw [stats_step]
  isplitl [HΦ Hs]
  · isplitl [Hs]; · iexists f'; iexact Hs
    iexact HΦ
  isplitl [Howes]; · iexact Howes
  isplitl [H0]; · iexact H0
  isplitl [H1]; · iexact H1
  isplitl [H2]
  · dsimp only
    split
    next h => exact absurd ((live_stats (grid0.coords t)).symm.trans h) Bool.false_ne_true
    next => iexact H2
  iexact H3

end Cert.KernelIdeal.PassA

end
-- ==== Proof.Whole.lean ====
/-
  Loads and stores of a memref that is held, as steps of a proof with named hypotheses; and the rectangle of a whole block.
-/
module

public import proofs.«01_k».proof.Proof.Spec

@[expose] public section

noncomputable section

namespace Cert.Steps

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode

variable {F : FTy → Type} [FloatOps F] [Cert.KernelIdeal.Facts]
variable {nD : Nat} {τ : Topo} {sig : RefSig} {Λ : Labels} {defs : Defs nD τ sig (Elt F) Λ}
variable {Ix : Type} [DecidableEq Ix] {Name : Type} [DecidableEq Name] {U : Type} [URA U] {Lvl : Type} [Preorder Lvl]
variable (c : Dev nD) (E : Set Name)
variable {Q : PUnit → sProp (MT nD τ sig Ix (Elt F) Name U Lvl)}

local notation "𝕄" => MT nD τ sig Ix (Elt F) Name U Lvl

/-- A load, with the rest of the program owed what the memref holds. -/
theorem load_step {cs : CoreSpace} {s : Shape} {e : EltTy} (M : Memref sig .tc cs s e) (r : Rect s) (hl : M.view.LoadsAt r.toLoadRect)
    (X : s.Idx → Elt F e) (k : (r.shape.Idx → Elt F e) → PR nD τ sig Λ F) :
    iprop(own c M X ∗ (own c M X -∗ WP defs c E (k (View.ld X r)) Q)) ⊢ WP defs c E (Prog.lift (.load M r.toLoadRect hl) >>= k) Q :=
  own_load c E M r hl X k _ (by iintro ⟨H, Hk⟩; iapply Hk; iexact H)

/-- A store, likewise. -/
theorem store_step {cs : CoreSpace} {s : Shape} {e : EltTy} (M : Memref sig .tc cs s e) (r : Rect s) (w : r.shape.Idx → Elt F e)
    (hx : (M.access r).Stores Finset.univ) (hm : Finset.univ = Finset.univ ∨ ∀ a, r.stride a = 1)
    (X : s.Idx → Elt F e) (k : PUnit → PR nD τ sig Λ F) :
    iprop(own c M X ∗ (own c M (r.overlay X w) -∗ WP defs c E (k ⟨⟩) Q)) ⊢ WP defs c E (Prog.lift (.store M r w Finset.univ hx hm) >>= k) Q :=
  own_store c E M r w hx hm X k _ (by iintro ⟨H, Hk⟩; iapply Hk; iexact H)

/-- The whole block's rectangle embeds every index as itself, -/
theorem emb_whole {s : Shape} (off : Fin s.rank → ℕ) (h : ∀ a, off a = 0) (inb : ∀ a, off a + s.size a ≤ s.size a) (y : s.Idx) :
    (Rect.unit (s := s) off s.size inb).emb y = y := by
  funext a
  apply Fin.ext
  rw [Rect.emb_apply]
  show off a + 1 * (y a).val = (y a).val
  rw [h]; omega

/-- so that a load of it reads what is held -/
theorem ld_whole {s : Shape} {e : EltTy} (off : Fin s.rank → ℕ) (h : ∀ a, off a = 0) (inb : ∀ a, off a + s.size a ≤ s.size a) (X : s.Idx → Elt F e) :
    View.ld X (Rect.unit (s := s) off s.size inb) = X := by
  funext y
  exact congrArg X (emb_whole off h inb y)

/-- and a store to it replaces what was held. -/
theorem overlay_whole {s : Shape} {α : Type} (off : Fin s.rank → ℕ) (h : ∀ a, off a = 0) (inb : ∀ a, off a + s.size a ≤ s.size a) (X w : s.Idx → α) :
    (Rect.unit (s := s) off s.size inb).overlay X w = w := by
  funext y
  have := Rect.overlay_emb (Rect.unit (s := s) off s.size inb) X w y
  rwa [emb_whole off h inb y] at this

end Cert.Steps

end
-- ==== Proof.RegionB.lean ====
/-
  The second pass as a region of the program: at each of the eight grid points the body takes a batch element's ring
  maxima and the statistics of the whole batch, and leaves that batch element's result.
-/
module

public import proofs.«01_k».proof.Proof.Whole
public import proofs.«01_k».proof.Proof.RegionA

@[expose] public section

noncomputable section

namespace Cert.KernelIdeal.PassB

open Cert.KernelIdeal.Gen Cert.KernelIdeal.PassA
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

/-- One over the number of entries of a channel. -/
abbrev invN : F .f32 := Named.named κ "inv_n" 0x36AC7692#32

/-- The whole of a block, and the two columns of the scale and offset. -/
abbrev rS : Rect S128x1 := Rect.unit (s := S128x1) ![0, 0] S128x1.size inb_S128x1_S128x1_0_0
/-- The column of the scales. -/
abbrev rG : Rect S128x2 := Rect.unit (s := S128x2) ![0, 0] S128x1.size inb_S128x2_S128x1_0_0
/-- The column of the offsets. -/
abbrev rB : Rect S128x2 := Rect.unit (s := S128x2) ![0, 1] S128x1.size inb_S128x2_S128x1_0_1
/-- The whole block of maxima. -/
abbrev rM : Rect S1x128x16 := Rect.unit (s := S1x128x16) ![0, 0, 0] S1x128x16.size inb_S1x128x16_S1x128x16_0_0_0
/-- The whole 0/1 matrix of the rings. -/
abbrev rH : Rect S16x24320 := Rect.unit (s := S16x24320) ![0, 0] S16x24320.size inb_S16x24320_S16x24320_0_0
/-- The whole block of the result. -/
abbrev rO : Rect S1x128x24320 := Rect.unit (s := S1x128x24320) ![0, 0, 0] S1x128x24320.size inb_S1x128x24320_S1x128x24320_0_0_0

/-- The mean of each channel without its bias. -/
def mean (s : FVec F S128x1 .f32) : FVec F S128x1 .f32 := mulf s (broadcast S128x1 invN)
/-- The factor that each channel is multiplied by: the scale over the standard deviation. -/
def factor (s q g : FVec F S128x1 .f32) : FVec F S128x1 .f32 :=
  mulf g (rsqrt (addf (subf (mulf q (broadcast S128x1 invN)) (mulf (mean s) (mean s))) (broadcast S128x1 (Scalar.ofBits .f32 0x3727C5AC#32))))
/-- What is then added to each channel. -/
def offset (s q b g e : FVec F S128x1 .f32) : FVec F S128x1 .f32 :=
  addf (mulf b (factor s q g)) (subf e (mulf (addf (mean s) b) (factor s q g)))
/-- The normalised ring maxima, spread over the rings by the product with the 0/1 matrix. -/
def out (s q b g e : FVec F S128x1 .f32) (mx : FVec F S128x16 .f32) (h : FVec F S16x24320 .f32) : FVec F S128x24320 .f32 :=
  matmul dot_S128x16_S16x24320_S128x24320_1_0_0_1_n_n none
    (addf (mulf mx (broadcastTo S128x16 (factor s q g) broadcasts_S128x1_S128x16)) (broadcastTo S128x16 (offset s q b g e) broadcasts_S128x1_S128x16))
    h (constant S128x24320 .f32 0x00000000#32)

/-- The block that the body leaves, from the six that it reads. -/
def block (s q : S128x1.Idx → Elt F .f32) (mx : S1x128x16.Idx → Elt F .f32) (gb : S128x2.Idx → Elt F .f32) (b : S128x1.Idx → Elt F .f32) (h : S16x24320.Idx → Elt F .f32) :
    S1x128x24320.Idx → Elt F .f32 :=
  shapeCast S1x128x24320 (out (shapeCast S128x1 s shapeCasts_S128x1_S128x1) (shapeCast S128x1 q shapeCasts_S128x1_S128x1)
    (shapeCast S128x1 b shapeCasts_S128x1_S128x1) (shapeCast S128x1 (View.ld gb rG) shapeCasts_S128x1_S128x1)
    (shapeCast S128x1 (View.ld gb rB) shapeCasts_S128x1_S128x1) (shapeCast S128x16 mx shapeCasts_S1x128x16_S128x16)
    (shapeCast S16x24320 h shapeCasts_S16x24320_S16x24320)) shapeCasts_S128x24320_S1x128x24320

/-- A list of zeros is zero at every place. -/
theorem zero2 : ∀ a : Fin 2, (![0, 0] : Fin 2 → ℕ) a = 0 := by decide
/-- So is a longer one. -/
theorem zero3 : ∀ a : Fin 3, (![0, 0, 0] : Fin 3 → ℕ) a = 0 := by decide

/-- The body's triple: from its seven blocks held, it leaves its own block holding `block` of the other six. -/
theorem wp_body (c : Dev nD) (i : grid1.Coords) (arg1 : Memref sig .tc .vmem S128x1 .f32) (harg1 : arg1.IsWhole) (arg2 : Memref sig .tc .vmem S128x1 .f32) (harg2 : arg2.IsWhole)
    (arg3 : Memref sig .tc .vmem S1x128x16 .f32) (harg3 : arg3.IsWhole) (arg4 : Memref sig .tc .vmem S128x2 .f32) (harg4 : arg4.IsWhole) (arg5 : Memref sig .tc .vmem S128x1 .f32) (harg5 : arg5.IsWhole)
    (arg6 : Memref sig .tc .vmem S16x24320 .f32) (harg6 : arg6.IsWhole) (arg7 : Memref sig .tc .vmem S1x128x24320 .f32) (harg7 : arg7.IsWhole)
    (s q : S128x1.Idx → Elt F .f32) (mx : S1x128x16.Idx → Elt F .f32) (gb : S128x2.Idx → Elt F .f32) (b : S128x1.Idx → Elt F .f32) (h : S16x24320.Idx → Elt F .f32)
    (o : S1x128x24320.Idx → Elt F .f32) (Q : PUnit → sProp 𝕄) :
    iprop(Steps.own c arg1 s ∗ Steps.own c arg2 q ∗ Steps.own c arg3 mx ∗ Steps.own c arg4 gb ∗ Steps.own c arg5 b ∗ Steps.own c arg6 h ∗ Steps.own c arg7 o
      ∗ (iprop(Steps.own c arg1 s ∗ Steps.own c arg2 q ∗ Steps.own c arg3 mx ∗ Steps.own c arg4 gb ∗ Steps.own c arg5 b ∗ Steps.own c arg6 h ∗ Steps.own c arg7 (block s q mx gb b h)) -∗ Q ⟨⟩))
      ⊢ wp frame (wpE (defs₀ (F := F)) Variants.none (c : Thread nD τ) none) Set.univ (cc1__pass_b_body i arg1 harg1 arg2 harg2 arg3 harg3 arg4 harg4 arg5 harg5 arg6 harg6 arg7 harg7) Q := by
  unfold cc1__pass_b_body k1_part1
  simp only [bind_assoc, pure_bind]
  iintro ⟨H1, H2, H3, H4, H5, H6, H7, Hk⟩
  iapply (Steps.load_step c Set.univ arg1 rS _ s _)
  isplitl [H1]; · iexact H1
  iintro H1
  iapply (Steps.load_step c Set.univ arg2 rS _ q _)
  isplitl [H2]; · iexact H2
  iintro H2
  iapply (Steps.load_step c Set.univ arg5 rS _ b _)
  isplitl [H5]; · iexact H5
  iintro H5
  iapply (Steps.load_step c Set.univ arg4 rG _ gb _)
  isplitl [H4]; · iexact H4
  iintro H4
  iapply (Steps.load_step c Set.univ arg4 rB _ gb _)
  isplitl [H4]; · iexact H4
  iintro H4
  iapply (Steps.load_step c Set.univ arg3 rM _ mx _)
  isplitl [H3]; · iexact H3
  iintro H3
  iapply (Steps.load_step c Set.univ arg6 rH _ h _)
  isplitl [H6]; · iexact H6
  iintro H6
  iapply (Steps.load_step c Set.univ arg7 rO _ o _)
  isplitl [H7]; · iexact H7
  iintro H7
  iapply (Steps.store_step c Set.univ arg7 rO _ _ _ o _)
  isplitl [H7]; · iexact H7
  iintro H7
  rw [Steps.ld_whole (s := S128x1) _ zero2 _ s, Steps.ld_whole (s := S128x1) _ zero2 _ q, Steps.ld_whole (s := S128x1) _ zero2 _ b, Steps.ld_whole (s := S16x24320) _ zero2,
    Steps.ld_whole (s := S1x128x16) _ zero3, Steps.overlay_whole (s := S1x128x24320) _ zero3]
  unfold Steps.WP
  rw [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → Valuation τ sig (Elt F))

/-- What the body finds at point `t` in each of the six blocks that it reads. -/
def blk (c : Dev nD) (w : Fin 7) (t : Fin cfg1.N) : ((cfg1.win w).xblock (cfg1.grid.coords t)).Idx → Elt F (cfg1.win w).elt :=
  ((cfg1.win w).blk t).view.read (Elt F) (V c (Pipeline.arrRef spec1 w))

/-- The block that the body leaves at point `t`. -/
def outAt (c : Dev nD) (t : Fin cfg1.N) : S1x128x24320.Idx → Elt F .f32 :=
  block (blk V c 0 t) (blk V c 1 t) (blk V c 2 t) (blk V c 3 t) (blk V c 4 t) (blk V c 5 t)

/-- The scoped buffers the pass does not stage, held at something. -/
abbrev Φc (c : Dev nD) : sProp 𝕄 := Pipeline.scopedRest (Ix := Unit) (Name := ℕ) (U := UU) (Lvl := ℕ) (Val := Elt F) spec1 c

/-- The proof data of the pass entered from `V`: each input's block left in place, and the point's result. -/
def dat (c : Dev nD) : Dat τ (Elt F) Unit ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outAt V c t
  Φ _ := Φc c
  q _ := fullShare
  owed _ := 0

/-- An input's block is what the body finds there. -/
theorem before_in (c : Dev nD) (t : Fin cfg1.N) :
    (∀ d, (dat V c).before 0 t d = blk V c 0 t) ∧ (∀ d, (dat V c).before 1 t d = blk V c 1 t) ∧ (∀ d, (dat V c).before 2 t d = blk V c 2 t)
    ∧ (∀ d, (dat V c).before 3 t d = blk V c 3 t) ∧ (∀ d, (dat V c).before 4 t d = blk V c 4 t) ∧ (∀ d, (dat V c).before 5 t d = blk V c 5 t) :=
  ⟨(dat V c).before_in_eq_fetched 0 rfl (fun _ => rfl) (fun _ _ _ => rfl) (fun _ => rfl) t,
   (dat V c).before_in_eq_fetched 1 rfl (fun _ => rfl) (fun _ _ _ => rfl) (fun _ => rfl) t,
   (dat V c).before_in_eq_fetched 2 rfl (fun _ => rfl) (fun _ _ _ => rfl) (fun _ => rfl) t,
   (dat V c).before_in_eq_fetched 3 rfl (fun _ => rfl) (fun _ _ _ => rfl) (fun _ => rfl) t,
   (dat V c).before_in_eq_fetched 4 rfl (fun _ => rfl) (fun _ _ _ => rfl) (fun _ => rfl) t,
   (dat V c).before_in_eq_fetched 5 rfl (fun _ => rfl) (fun _ _ _ => rfl) (fun _ => rfl) t⟩

/-- The body at every grid point. -/
theorem body_obligation (c : Dev nD) : BodyObligation (dat V c) (defs₀ (F := F)) 𝒱₀ () Set.univ := fun t => by
  obtain ⟨b0, b1, b2, b3, b4, b5⟩ := before_in V c t
  rw [bigSep_W1, bigSep_W1]
  rw [show (dat V c).Φ t.castSucc = Φc c from rfl, show (dat V c).Φ t.succ = Φc c from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [b0, b1, b2, b3, b4, b5]
  have hbt : defs₀ (F := F) .tc cfg1.body (cfg1.bodyArgs t (cfg1.slots t)) = bodyAt1 t := rfl
  rw [hbt]
  iapply (wp_body c (grid1.coords t) (st1_0 t) _ (st1_1 t) _ (st1_2 t) _ (st1_3 t) _ (st1_4 t) _ (st1_5 t) _ (st1_6 t) _
    (blk V c 0 t) (blk V c 1 t) (blk V c 2 t) (blk V c 3 t) (blk V c 4 t) (blk V c 5 t) ((dat V c).before 6 t d6))
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.KernelIdeal.PassB

end
-- ==== Proof.Run.lean ====
/-
  The whole program: the two passes as regions between the host's stretches, what each leaves, and what every execution
  ends with.
-/
module

public import proofs.«01_k».proof.Proof.RegionA
public import proofs.«01_k».proof.Proof.RegionB

@[expose] public section

noncomputable section

namespace Cert.KernelIdeal.Whole

open Cert.KernelIdeal.Gen Cert.KernelIdeal.PassA
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg HostSeg)

variable {F : FTy → Type} [FloatOps F] [Named F]

local notation "𝕄" => MT nD τ sig Unit (Elt F) ℕ UU ℕ

/-- No core owes another anything: no level is assigned. -/
abbrev L : GSem nD τ sig → Finset Unit := fun _ => ∅
/-- Every counter is at level zero. -/
abbrev lv : GSem nD τ sig → Unit → ℕ := fun _ _ => 0

/-- What rides along beside the buffers: the core owes nothing. -/
abbrev rest (_ : Fin 3) (c : Dev nD) : sProp 𝕄 := iprop(∃ W, owes (c : Thread nD τ) (0 : CellTallies nD τ sig Unit) W)

/-- The unscoped buffers held at a valuation. -/
abbrev heldAt (c : Dev nD) (V : Valuation τ sig (Elt F)) : sProp 𝕄 := StableHlo.held (c : Thread nD τ) (Pipeline.ucRefs τ sig) V

variable (V V' Vp : (c : Dev nD) → Valuation τ sig (Elt F))

/-- Both passes' proof data: the first entered from `V`, the second from `V'`. -/
def pdats : (p : Fin 2) → (c : Dev nD) → Dat τ (Elt F) Unit ℕ UU ℕ (cfgs p) c
  | ⟨0, _⟩ => fun c => PassA.dat V c
  | ⟨1, _⟩ => fun c => PassB.dat V' c

set_option backward.isDefEq.respectTransparency.types false in
/-- The first pass entered with the buffers at `V` and left with them at `Vp`, which has the pass's two results and is
    otherwise `V`. -/
def reg0 (hb : BodyEq F) (h2 : ∀ c, Vp c main_call0_v2_0 = (PassA.dat V c).arrAt 2 cfg0.N) (h3 : ∀ c, Vp c main_call0_v2_1 = (PassA.dat V c).arrAt 3 cfg0.N)
    (hne : ∀ c (b : Ref sig .tc), b ≠ main_call0_v2_0 → b ≠ main_call0_v2_1 → Vp c b = V c b) :
    RegionSeg (pcfgs (F := F)) adm (pdats V V') () defs₀ 𝒱₀ L lv 0 where
  win := launch0.win.to₀
  block_pos := launch0.block_pos
  stage_whole := launch0.stage_whole
  K := PEmpty
  osem k := k.elim
  ho := Pipeline.OwnSemFacts.none _
  hbody c := (PassA.body_obligation V hb c).loose
  hwaits := Pipeline.hwaits_of_owed_zero _ _ _ _ L lv 0 fun _ _ => rfl
  pre c := iprop(heldAt c (V c) ∗ rest 0 c)
  post c := iprop(heldAt c (Vp c) ∗ rest 1 c)
  X _ := BI.emp
  Y _ := BI.emp
  Z c := Pipeline.unscopedRest (Ix := Unit) (Name := ℕ) (U := UU) (Lvl := ℕ) spec0 c (fun b => V c b)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (fun b => V c b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 0 c).Φ 0 = PassA.Φc c from rfl]
    iintro ⟨-, -, Hr⟩; iexact Hr
  hout c := by
    rw [Pipeline.ownSems0_none, show (pdats V V' 0 c).Φ (Fin.last _) = PassA.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V V') ((pdats V V' 0 c).share_full fun _ => rfl) (fun b => V c b) (fun b => Vp c b) ((pdats V V' 0 c).arrAt · cfg0.N)
      (fun w => by
        fin_cases w
        · exact ((pdats V V' 0 c).arrAt_in 0 rfl _).trans (hne c main_call0_v1 (by decide) (by decide)).symm
        · exact ((pdats V V' 0 c).arrAt_in 1 rfl _).trans (hne c main_arg0 (by decide) (by decide)).symm
        · exact (h2 c).symm
        · exact (h3 c).symm)
      (fun b hb => hne c b (fun h => hb (h ▸ Finset.mem_image.mpr ⟨2, Finset.mem_univ _, rfl⟩)) (fun h => hb (h ▸ Finset.mem_image.mpr ⟨3, Finset.mem_univ _, rfl⟩)))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second pass entered with the buffers at `V'` and left with them at `Vp`, which has the pass's result and is
    otherwise `V'`. -/
def reg1 (h6 : ∀ c, Vp c main_v0 = (PassB.dat V' c).arrAt 6 cfg1.N) (hne : ∀ c (b : Ref sig .tc), b ≠ main_v0 → Vp c b = V' c b) :
    RegionSeg (pcfgs (F := F)) adm (pdats V V') () defs₀ 𝒱₀ L lv 1 where
  win := launch1.win.to₀
  block_pos := launch1.block_pos
  stage_whole := launch1.stage_whole
  K := PEmpty
  osem k := k.elim
  ho := Pipeline.OwnSemFacts.none _
  hbody c := (PassB.body_obligation V' c).loose
  hwaits := Pipeline.hwaits_of_owed_zero _ _ _ _ L lv 1 fun _ _ => rfl
  pre c := iprop(heldAt c (V' c) ∗ rest 1 c)
  post c := iprop(heldAt c (Vp c) ∗ rest 2 c)
  X _ := BI.emp
  Y _ := BI.emp
  Z c := Pipeline.unscopedRest (Ix := Unit) (Name := ℕ) (U := UU) (Lvl := ℕ) spec1 c (fun b => V' c b)
  hentry c := by
    rw [Pipeline.ownSems0_none]
    have hsplit := Pipeline.arrays_of_unscopedBufs (p := 1) (pcfgs (F := F)) adm (pdats V V') launch1.win launch1.arr_whole c
      ((pdats V V' 1 c).share_full fun _ => rfl) (fun b => V' c b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 1 c).Φ 0 = PassB.Φc c from rfl]
    iintro ⟨-, -, Hr⟩; iexact Hr
  hout c := by
    rw [Pipeline.ownSems0_none, show (pdats V V' 1 c).Φ (Fin.last _) = PassB.Φc c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats V V') ((pdats V V' 1 c).share_full fun _ => rfl) (fun b => V' c b) (fun b => Vp c b) ((pdats V V' 1 c).arrAt · cfg1.N)
      (fun w => by
        have hin (w : Fin 7) (hw : (cfg1.win w).isOut = false) (hv : Pipeline.arrRef spec1 w ≠ main_v0) :
            (pdats V V' 1 c).arrAt w cfg1.N = Vp c (Pipeline.arrRef spec1 w) :=
          ((pdats V V' 1 c).arrAt_in w hw _).trans (hne c _ hv).symm
        fin_cases w
        · exact hin 0 rfl (by decide)
        · exact hin 1 rfl (by decide)
        · exact hin 2 rfl (by decide)
        · exact hin 3 rfl (by decide)
        · exact hin 4 rfl (by decide)
        · exact hin 5 rfl (by decide)
        · exact (h6 c).symm)
      (fun b hb => hne c b (fun h => hb (h ▸ Finset.mem_image.mpr ⟨6, Finset.mem_univ _, rfl⟩)))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

variable (m : (ℓ : Loc nD τ sig) → Buf (Elt F) ℓ)

/-- What the first pass leaves as its statistics. -/
def statsArr (c : Dev nD) : Buf (Elt F) ((c : Thread nD τ).loc main_call0_v2_0) := (PassA.dat (V1 m) c).arrAt 2 cfg0.N
/-- What the first pass leaves as its row maxima. -/
def rowsArr (c : Dev nD) : Buf (Elt F) ((c : Thread nD τ).loc main_call0_v2_1) := (PassA.dat (V1 m) c).arrAt 3 cfg0.N

/-- The buffers as the first pass leaves them, as the contents it may change. -/
def outs0 : Outs (F := F) := fun _ r c =>
  Function.update (Function.update (V1 m c) main_call0_v2_0 (statsArr m c)) main_call0_v2_1 (rowsArr m c) r

/-- The statistics, read back from those buffers. -/
theorem outs0_stats (c : Dev nD) (J : ℕ) : outs0 m J main_call0_v2_0 c = statsArr m c := by
  unfold outs0
  rw [Function.update_of_ne (StableHlo.devRef_ne_of_ne (by decide) : (Proc.devRef .tc main_call0_v2_0 : DevRef τ sig) ≠ Proc.devRef .tc main_call0_v2_1), Function.update_self]

/-- The row maxima, read back from those buffers. -/
theorem outs0_rows (c : Dev nD) (J : ℕ) : outs0 m J main_call0_v2_1 c = rowsArr m c := by
  unfold outs0; rw [Function.update_self]

/-- The buffers as the second pass finds them. -/
abbrev Vmid (c : Dev nD) : Valuation τ sig (Elt F) := V3 m (outs0 m) c

/-- The program's result. -/
def result (c : Dev nD) : Buf (Elt F) ((c : Thread nD τ).loc main_v0) := (PassB.dat (Vmid m) c).arrAt 6 cfg1.N

/-- What both passes leave. -/
def outs : Outs (F := F) := fun J r c => match J with
  | 4 => Function.update (Vmid m c) main_v0 (result m c) r
  | _ => outs0 m J r c

/-- What the second pass leaves in the result's buffer. -/
theorem outs_result (c : Dev nD) : outs m 4 main_v0 c = result m c := by
  show Function.update (Vmid m c) main_v0 (result m c) main_v0 = _
  rw [Function.update_self]

/-- The first pass between the host's stretches. -/
def R0 (hb : BodyEq F) : RegionSeg (pcfgs (F := F)) adm (pdats (V1 m) (Vmid m)) () defs₀ 𝒱₀ L lv 0 :=
  reg0 (V1 m) (Vmid m) (V2 m (outs m)) hb
    (fun c => by
      show Function.update (Function.update (V1 m c) main_call0_v2_0 (outs0 m 2 main_call0_v2_0 c)) main_call0_v2_1 (outs0 m 2 main_call0_v2_1 c) main_call0_v2_0 = _
      rw [Function.update_of_ne (StableHlo.devRef_ne_of_ne (by decide) : (Proc.devRef .tc main_call0_v2_0 : DevRef τ sig) ≠ Proc.devRef .tc main_call0_v2_1),
        Function.update_self, outs0_stats]; rfl)
    (fun c => by
      show Function.update (Function.update (V1 m c) main_call0_v2_0 (outs0 m 2 main_call0_v2_0 c)) main_call0_v2_1 (outs0 m 2 main_call0_v2_1 c) main_call0_v2_1 = _
      rw [Function.update_self, outs0_rows]; rfl)
    (fun c b h h' => V2_of m (outs m) c b (by simp [h, h']))

/-- The second pass between the host's stretch and the end. -/
def R1 : RegionSeg (pcfgs (F := F)) adm (pdats (V1 m) (Vmid m)) () defs₀ 𝒱₀ L lv 1 :=
  reg1 (V1 m) (Vmid m) (V4 m (outs m))
    (fun c => by
      show Function.update (Vmid m c) main_v0 (outs m 4 main_v0 c) main_v0 = _
      rw [Function.update_self, outs_result]; rfl)
    (fun c b h => V4_of m (outs m) c b (by simp [h]))

/-- The launch's ghost state: the pipelines' tokens. -/
abbrev u₀ : UU := (initOf (Pipeline.cells cfgs cellOf_inj) (Pipeline.launchToks cfgs cellOf_inj), 1)

/-- The ghost state that the launch starts from. -/
theorem launch_ghost : (ownU u₀ : sProp 𝕄) ⊢ |={Set.univ}=> iprop(BI.own ((embL : Emb (URounds (GSem nD τ sig) Unit) 𝕄) (initOf (Pipeline.cells cfgs cellOf_inj) (Pipeline.launchToks cfgs cellOf_inj)))
    ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ => BI.emp) from by rw [BI.bigSep_emp_const])
  iempintro

/-- What a device has at the start beside its buffers is what rides along. -/
theorem rest_of_launch (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ BI.emp) : sProp 𝕄) ⊢ rest (F := F) 0 c := by
  iintro ⟨-, HO, -⟩
  iexists ∅
  iexact HO

/-- The same for all devices at once. -/
theorem launch_rest (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts L lv)
      ⊢ (|={Set.univ}=> bigSep Finset.univ (rest (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ BI.emp))
      ⊢ (bigSep Finset.univ (rest (F := F) 0) : sProp 𝕄) := bigSep_mono fun c _ => rest_of_launch ρ c
  iintro ⟨H, -⟩
  imodintro
  iapply h
  iexact H

/-- The program leaves its arguments unchanged and every semaphore counter at zero. -/
theorem frame (hb : BodyEq F) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_cond m embL () 𝒱₀ L lv (fun _ _ => rfl) ρ (outs m) (pdats (V1 m) (Vmid m)) (fun _ => 0) (fun _ => BI.emp) u₀ launch_ghost rest (launch_rest ρ)
    (fun _ => .rfl) (R0 m hb) (fun _ => .rfl) (fun _ => .rfl) (R1 m) (fun _ => .rfl) (fun _ => .rfl)

end Cert.KernelIdeal.Whole

end
-- ==== Proof.Ends.lean ====
/-
  What every execution of the whole program ends with: the result's buffer beside the arguments.
-/
module

public import proofs.«01_k».proof.Proof.Run

@[expose] public section

noncomputable section

namespace Cert.KernelIdeal.Whole

open Cert.KernelIdeal.Gen Cert.KernelIdeal.PassA
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg HostSeg)

variable {F : FTy → Type} [FloatOps F] [Named F]

local notation "𝕄" => MT nD τ sig Unit (Elt F) ℕ UU ℕ

variable (m : (ℓ : Loc nD τ sig) → Buf (Elt F) ℓ)

/-- What core `c`'s buffers are to hold at the end: the result, and the arguments as at the start. -/
abbrev Ends (c : Dev nD) (n : (ℓ : Loc nD τ sig) → Buf (Elt F) ℓ) : Prop :=
  n ((c.tc : Thread nD τ).loc main_v0) = result m c
  ∧ n ((c.tc : Thread nD τ).loc main_arg0) = m ((c.tc : Thread nD τ).loc main_arg0)
  ∧ n ((c.tc : Thread nD τ).loc main_arg1) = m ((c.tc : Thread nD τ).loc main_arg1)
  ∧ n ((c.tc : Thread nD τ).loc main_arg2) = m ((c.tc : Thread nD τ).loc main_arg2)
  ∧ n ((c.tc : Thread nD τ).loc main_arg3) = m ((c.tc : Thread nD τ).loc main_arg3)
  ∧ n ((c.tc : Thread nD τ).loc main_arg4) = m ((c.tc : Thread nD τ).loc main_arg4)
  ∧ n ((c.tc : Thread nD τ).loc main_arg5) = m ((c.tc : Thread nD τ).loc main_arg5)

/-- The result's buffer holds the result in the last valuation. -/
theorem last_result (c : Dev nD) : V4 m (outs m) c main_v0 = result m c := (Function.update_self ..).trans (outs_result m c)

/-- The launch's unscoped buffers are held at the first valuation. -/
theorem launch_held (ρ : Dev nD → PrngReg) : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp))
    ⊢ (iprop((bigSep Finset.univ fun c : Dev nD => heldAt c (V0 m c))
        ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp)) : sProp 𝕄) := by
  rw [← bigSep_sep']
  exact bigSep_mono fun c _ => by unfold heldAt; rw [← Pipeline.unscopedBufs_held (Ix := Unit) (Name := ℕ) (U := UU) (Lvl := ℕ) c (V0 m c)]; exact BI.Entails.refl _

set_option backward.isDefEq.respectTransparency.types false in
/-- Every execution ends with the result's buffer at `result` and the arguments unchanged. -/
theorem ends (hb : BodyEq F) (ρ : Dev nD → PrngReg) :
    θ_run defs (onTc (τ := τ) (main (F := F))) ⟨m, fun _ => 0, ρ⟩ (fun r => ∀ c : Dev nD, Ends m c r.2.mem) := by
  refine Pipeline.θ_run_regions_kit_dev_sems (pcfgs (F := F)) adm (pdats (V1 m) (Vmid m)) () cellOf_inj embL defs₀ 𝒱₀ L lv m ρ main
    (segs m (outs m) 𝒱₀ L lv rest () (pdats (V1 m) (Vmid m)) (R0 m hb) (R1 m))
    (fun c Q => by
      rewrite [main_chain c, Seg.run_eq_chain,
        show (segs m (outs m) 𝒱₀ L lv rest () (pdats (V1 m) (Vmid m)) (R0 m hb) (R1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl) (fun _ => BI.emp) u₀ launch_ghost
    (T₀ := fun c => iprop(heldAt c (V0 m c) ∗ rest 0 c))
    (Tₙ := fun c => heldAt c (V4 m (outs m) c))
    (hch := fun c => ⟨.rfl, .rfl, .rfl, .rfl, sep_mono .rfl .rfl⟩)
    (hinit := ?_) (QY := fun c s => Ends m c s.mem)
    (hfin := fun c s' => ?_) (hQ := fun _ h _ => h)
  · iintro ⟨H, Hla⟩
    ihave H' := launch_held m ρ $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · unfold heldAt StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (last_result m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c)⟩
    · iexact HSI

end Cert.KernelIdeal.Whole

end
-- ==== Proof.EntriesB.lean ====
/-
  The second pass's arithmetic at the extended reals, entry by entry.
-/
module

public import proofs.«01_k».proof.Proof.RegionB
public import Idealize.ShloMosaic.Lib.Pointwise

@[expose] public section

set_option maxRecDepth 16384

noncomputable section

namespace Cert.KernelIdeal.PassB

open Cert.KernelIdeal
open Idealize.ShloMosaic
open Facts₀ Facts

/-- The constant that stands for one over the number of entries of a channel is that number. -/
theorem invN_eq : (invN : Ideal .f32) = ((1 / 194560 : ℝ) : EReal) :=
  IdealRules.named_const.ideal_named_scalar _ _ _ _ rfl

/-- A channel's mean, factor and offset, of numbers. -/
def mean1 (s : EReal) : EReal := s * ((1 / 194560 : ℝ) : EReal)
/-- The factor that the maxima are multiplied by. -/
def factor1 (s q g : EReal) : EReal := g * Ideal.rsqrt (q * ((1 / 194560 : ℝ) : EReal) - mean1 s * mean1 s + Ideal.ofBits .f32 0x3727C5AC#32)
/-- What is added after that. -/
def offset1 (s q b g e : EReal) : EReal := b * factor1 s q g + (e - (mean1 s + b) * factor1 s q g)

/-- The block's entry at channel `ch`, position `n`: the sum over the rings of the normalised maxima times the 0/1 matrix. -/
theorem block_apply (s q : S128x1.Idx → Elt Ideal .f32) (mx : S1x128x16.Idx → Elt Ideal .f32) (gb : S128x2.Idx → Elt Ideal .f32) (b : S128x1.Idx → Elt Ideal .f32)
    (h : S16x24320.Idx → Elt Ideal .f32) (ch : Fin 128) (n : Fin 24320) :
    block s q mx gb b h (ix3 0 ch n) = ∑ r : Fin 16,
      (mx (ix3 0 ch r) * factor1 (s (ix2 ch 0)) (q (ix2 ch 0)) (gb (ix2 ch 0))
        + offset1 (s (ix2 ch 0)) (q (ix2 ch 0)) (b (ix2 ch 0)) (gb (ix2 ch 0)) (gb (ix2 ch 1))) * h (ix2 r n) := by
  unfold block out offset factor mean offset1 factor1 mean1
  rw [← invN_eq]
  pointwise

end Cert.KernelIdeal.PassB

end
-- ==== Proof.Norm.lean ====
/-
  The identity behind the kernel: normalising the maximum of a ring from the sum and the sum of squares of a channel is
  the maximum of the normalised entries.
-/
module

public import proofs.«01_k».proof.Proof.EntriesB

@[expose] public section

noncomputable section

namespace Cert.Norm

open Idealize.ShloMosaic
open Cert.KernelIdeal.PassB

/-- A sum of numbers is the same among the reals and among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s h ih => rw [Finset.sum_insert h, Finset.sum_insert h, ih, EReal.coe_add]

/-- The mean of the squared distances from the mean, whatever is added to all entries, is the mean of the squares less
    the square of the mean. -/
theorem var_eq {ι : Type} [Fintype ι] (hN : (Fintype.card ι : ℝ) = 194560) (u : ι → ℝ) (b : ℝ) :
    (∑ i, (u i + b - (∑ j, (u j + b)) * (1 / 194560)) * (u i + b - (∑ j, (u j + b)) * (1 / 194560))) * (1 / 194560)
      = (∑ i, u i * u i) * (1 / 194560) - (∑ i, u i) * (1 / 194560) * ((∑ i, u i) * (1 / 194560)) := by
  have hs : ∑ j, (u j + b) = (∑ j, u j) + 194560 * b := by
    rw [Finset.sum_add_distrib, Finset.sum_const, Finset.card_univ, nsmul_eq_mul, hN]
  rw [hs]
  generalize hS : ∑ j, u j = S
  have h : ∀ i, (u i + b - (S + 194560 * b) * (1 / 194560)) * (u i + b - (S + 194560 * b) * (1 / 194560))
      = u i * u i - 2 * (S / 194560) * u i + (S / 194560) * (S / 194560) := fun i => by ring
  simp only [h]
  rw [Finset.sum_add_distrib, Finset.sum_sub_distrib, ← Finset.mul_sum, Finset.sum_const, Finset.card_univ, nsmul_eq_mul, hN, hS]
  ring

/-- The number added to the variance is a positive real. -/
theorem eps_pos : ∃ r : ℝ, 0 < r ∧ Ideal.ofBits .f32 0x3727C5AC#32 = (r : EReal) := by
  refine ⟨10995116 / 2 ^ 40, by norm_num, ?_⟩
  simp [Ideal.ofBits, Ideal.ieee]
  rw [← EReal.coe_mul]
  norm_num

/-- The identity for one ring of one channel: `u` the channel's entries before the bias, `p` the ring's places among them. -/
theorem ring_eq {ι κ : Type} [Fintype ι] [Fintype κ] [Nonempty κ] (hN : (Fintype.card ι : ℝ) = 194560) (u : ι → ℝ) (p : κ → ι) (b g : ℝ) (hg : 0 ≤ g) (e : EReal) :
    (Finset.univ.sup fun j => ((u (p j) : ℝ) : EReal)) * factor1 (∑ i, ((u i : ℝ) : EReal)) (∑ i, ((u i : ℝ) : EReal) * ((u i : ℝ) : EReal)) (g : EReal)
        + offset1 (∑ i, ((u i : ℝ) : EReal)) (∑ i, ((u i : ℝ) : EReal) * ((u i : ℝ) : EReal)) (b : EReal) (g : EReal) e
      = Finset.univ.sup fun j =>
          Ideal.div (((u (p j) : ℝ) : EReal) + (b : EReal) - Ideal.div (∑ i, (((u i : ℝ) : EReal) + (b : EReal))) ((194560 : ℝ) : EReal))
            (Ideal.sqrt (Ideal.div (∑ i, (((u i : ℝ) : EReal) + (b : EReal) - Ideal.div (∑ i, (((u i : ℝ) : EReal) + (b : EReal))) ((194560 : ℝ) : EReal))
              * (((u i : ℝ) : EReal) + (b : EReal) - Ideal.div (∑ i, (((u i : ℝ) : EReal) + (b : EReal))) ((194560 : ℝ) : EReal))) ((194560 : ℝ) : EReal)
              + Ideal.ofBits .f32 0x3727C5AC#32)) * (g : EReal) + e := by
  obtain ⟨ε, hε, hε'⟩ := eps_pos
  have hn : (194560 : ℝ) ≠ 0 := by norm_num
  have hmu : (∑ j, (u j + b)) * (1 / 194560) = (∑ i, u i) * (1 / 194560) + b := by
    rw [Finset.sum_add_distrib, Finset.sum_const, Finset.card_univ, nsmul_eq_mul, hN]; ring
  have hv := var_eq hN u b
  have hv0 : 0 ≤ (∑ i, u i * u i) * (1 / 194560) - (∑ i, u i) * (1 / 194560) * ((∑ i, u i) * (1 / 194560)) := by
    rw [← hv]
    exact mul_nonneg (Finset.sum_nonneg fun i _ => mul_self_nonneg _) (by norm_num)
  unfold offset1 factor1 mean1
  simp only [hε', Ideal.div_coe hn, ← EReal.coe_add, ← EReal.coe_mul, coe_sum, ← EReal.coe_sub, hv]
  rw [hmu]
  generalize (∑ i, u i * u i) * (1 / 194560) - (∑ i, u i) * (1 / 194560) * ((∑ i, u i) * (1 / 194560)) = v at hv0
  generalize (∑ i, u i) * (1 / 194560) = M
  have hp : 0 < v + ε := by linarith
  have hr : Real.sqrt (v + ε) ≠ 0 := (Real.sqrt_pos.mpr hp).ne'
  simp only [Ideal.rsqrt_coe, Ideal.sqrt_coe, if_neg (not_lt.mpr hp.le), if_neg hp.ne', Ideal.div_coe hr, ← EReal.coe_mul]
  have hs : 0 ≤ g * (Real.sqrt (v + ε))⁻¹ := mul_nonneg hg (inv_nonneg.mpr (Real.sqrt_nonneg _))
  have hF : ∀ j : κ, (((u (p j) + b - (M + b)) * (1 / Real.sqrt (v + ε)) * g : ℝ) : EReal) + e
      = ((u (p j) * (g * (Real.sqrt (v + ε))⁻¹) : ℝ) : EReal) + (((b * (g * (Real.sqrt (v + ε))⁻¹) : ℝ) : EReal) + (e - (((M + b) * (g * (Real.sqrt (v + ε))⁻¹) : ℝ) : EReal))) := fun j => by
    rw [sub_eq_add_neg e, ← EReal.coe_neg, add_comm e, ← add_assoc, ← add_assoc, ← EReal.coe_add, ← EReal.coe_add]
    congr 2
    ring
  simp only [hF]
  generalize g * (Real.sqrt (v + ε))⁻¹ = s at hs
  generalize ((b * s : ℝ) : EReal) + (e - (((M + b) * s : ℝ) : EReal)) = t
  obtain ⟨j0, -, h0⟩ := Finset.exists_mem_eq_sup Finset.univ Finset.univ_nonempty fun j => ((u (p j) : ℝ) : EReal)
  have hle : ∀ j, u (p j) ≤ u (p j0) := fun j => EReal.coe_le_coe_iff.mp (h0 ▸ Finset.le_sup (f := fun j => ((u (p j) : ℝ) : EReal)) (Finset.mem_univ j))
  rw [h0, ← EReal.coe_mul]
  refine le_antisymm (Finset.le_sup (f := fun j => ((u (p j) * s : ℝ) : EReal) + t) (Finset.mem_univ j0)) (Finset.sup_le fun j _ => ?_)
  exact add_le_add (EReal.coe_le_coe_iff.mpr (mul_le_mul_of_nonneg_right (hle j) hs)) le_rfl

end Cert.Norm

end
-- ==== Proof.Entries.lean ====
/-
  The two passes' arithmetic at the extended reals, entry by entry.
-/
module

public import proofs.«01_k».proof.Proof.Closed
public import Idealize.ShloMosaic.Lib.Pointwise

@[expose] public section

set_option maxRecDepth 16384

noncomputable section

namespace Cert.Steps

open Cert.KernelIdeal
open Idealize.ShloMosaic
open Facts₀ Facts

variable [Facts]

/-- A plane's entry: an entry of the input block. -/
theorem plane_apply (x : S1x64x24320.Idx → Elt Ideal .f32) (g : Fin 16) (p : Fin 4) (c : Fin 64) (q : Fin 380) :
    plane x g p (ix3 0 c q) = x (ix3 0 c ⟨1520 * g.val + 380 * p.val + q.val, by omega⟩) := by
  unfold plane
  pointwise

/-- A weight: an entry of the weights. -/
theorem weight_apply (w : S16x8x4.Idx → Elt Ideal .f32) (g : Fin 16) (o : Fin 8) (p : Fin 4) (i : S1x1x1.Idx) : weight w g o p i = w (ix3 g o p) := by
  unfold weight
  pointwise

/-- A weighted plane's entry. -/
theorem term_apply (w : Vec Ideal S1x1x1 .f32) (p : Vec Ideal S1x64x380 .f32) (v : Ideal .f32) (hw : ∀ i, w i = v) (c : Fin 64) (q : Fin 380) :
    term w p (ix2 c q) = v * p (ix3 0 c q) := by
  unfold term
  rw [hw]
  pointwise

/-- Output `o` of group `g` at row `c`, column `q`: the weighted sum of four entries of the input. -/
theorem acc_apply (w : S16x8x4.Idx → Elt Ideal .f32) (x : S1x64x24320.Idx → Elt Ideal .f32) (g : Fin 16) (o : Fin 8) (c : Fin 64) (q : Fin 380) :
    acc w x g o (ix2 c q) = ∑ p : Fin 4, w (ix3 g o p) * x (ix3 0 c ⟨1520 * g.val + 380 * p.val + q.val, by omega⟩) := by
  unfold acc comb
  simp only [addf_apply, Ideal.addf_def]
  rw [term_apply _ _ _ (weight_apply w g o 0), term_apply _ _ _ (weight_apply w g o 1), term_apply _ _ _ (weight_apply w g o 2),
    term_apply _ _ _ (weight_apply w g o 3)]
  simp only [plane_apply, Fin.sum_univ_four]

/-- A sum over a plane: over its rows and columns. -/
theorem sumOf_apply (a : FVec Ideal S64x380 .f32) : sumOf a = ∑ c : Fin 64, ∑ q : Fin 380, a (ix2 c q) := by
  unfold sumOf
  pointwise

/-- A group's statistics: the first row the sums, the second the sums of squares. -/
theorem partOf_apply (s q : Fin 8 → Ideal .f32) (k : Fin 2) (o : Fin 8) : partOf s q (ix2 k o) = if k = 0 then s o else q o := by
  unfold partOf cat8
  pointwise
  fin_vals k with hk <;> fin_vals o with ho <;>
  simp only [hk, ho, Nat.reduceSub, Nat.reduceLT, ↓reduceDIte, Fin.ext_iff, ↓reduceIte, Fin.val_zero, Nat.reduceEqDiff, one_ne_zero] <;> congr 1 <;> exact Fin.ext ho.symm

/-- The ring that position `64·q` lies in. -/
theorem ringOf_apply (r : Fin 64) (q : Fin 380) : ringOf S64x380 (iota .tc S64x380 32 [1] iota_S64x380_d1_w32) (ix2 r q) = BitVec.ofNat 32 (64 * q.val / 1520) := by
  unfold ringOf
  pointwise
  revert q
  decide +kernel

/-- Whether `64·q` lies in ring `r`. -/
theorem selA_apply (r : Fin 16) (q : Fin 380) : selA (ix2 r q) = BitVec.ofBool (decide (64 * q.val / 1520 = r.val)) := by
  unfold selA ringOf
  pointwise
  revert r q
  decide +kernel

/-- Whether `64·q` lies in the ring before `r`. -/
theorem selB_apply (r : Fin 16) (q : Fin 380) : selB (ix2 r q) = BitVec.ofBool (decide (64 * q.val / 1520 + 1 = r.val)) := by
  unfold selB ringOf
  pointwise
  revert r q
  decide +kernel

/-- Whether `64·q + c` lies in the ring of `64·q`. -/
theorem inLow_apply (c : Fin 64) (q : Fin 380) : inLow (ix2 c q) = BitVec.ofBool (decide (64 * q.val + c.val < 1520 * (64 * q.val / 1520 + 1))) := by
  have h := ringOf_apply c q
  unfold inLow
  simp only [cmpi_apply, subi_apply, muli_apply, addi_apply]
  rw [h]
  pointwise
  clear h
  revert c q
  decide +kernel

/-- The word of minus infinity is the bottom element. -/
theorem negInf : Ideal.ofBits .f32 0xFF800000#32 = (⊥ : EReal) := by simp [Ideal.ofBits, Ideal.ieee]

/-- The maximum of ring `r` of an output channel: over the ring's 1520 positions, position `n` being row `n % 64`, column `n / 64`. -/
theorem rowOf_apply (a : FVec Ideal S64x380 .f32) (r : Fin 16) :
    rowOf (⊥ : EReal) a (ix1 r) = Finset.univ.sup fun j : Fin 1520 => (a (ix2 ⟨(1520 * r.val + j.val) % 64, by omega⟩ ⟨(1520 * r.val + j.val) / 64, by omega⟩) : EReal) := by
  unfold rowOf spread
  pointwise
  simp only [negInf, selA_apply, selB_apply, inLow_apply]
  have hf {ι : Type} [Fintype ι] (f : ι → EReal) : Finset.fold max (⊥ : EReal) f Finset.univ = Finset.univ.sup f := rfl
  simp only [hf]
  have hs (b : Bool) (u v : EReal) : Scalar.select (BitVec.ofBool b) u v = if b then u else v := by cases b <;> rfl
  simp only [hs, decide_eq_true_eq]
  apply le_antisymm
  · refine max_le ?_ ?_ <;> refine Finset.sup_le fun q _ => ?_
    · split
      · refine Finset.sup_le fun c _ => ?_
        split
        · rename_i h1 h2
          refine le_trans (le_of_eq ?_) (Finset.le_sup (b := ⟨64 * q.val + c.val - 1520 * r.val, by omega⟩) (Finset.mem_univ _))
          refine congrArg a (congrArg₂ ix2 (Fin.ext ?_) (Fin.ext ?_)) <;> dsimp only <;> omega
        · exact bot_le
      · exact bot_le
    · split
      · refine Finset.sup_le fun c _ => ?_
        split
        · exact bot_le
        · rename_i h1 h2
          refine le_trans (le_of_eq ?_) (Finset.le_sup (b := ⟨64 * q.val + c.val - 1520 * r.val, by omega⟩) (Finset.mem_univ _))
          refine congrArg a (congrArg₂ ix2 (Fin.ext ?_) (Fin.ext ?_)) <;> dsimp only <;> omega
      · exact bot_le
  · refine Finset.sup_le fun j _ => ?_
    by_cases h : 64 * ((1520 * r.val + j.val) / 64) / 1520 = r.val
    · refine le_trans ?_ (le_max_left _ _)
      refine le_trans ?_ (Finset.le_sup (b := ⟨(1520 * r.val + j.val) / 64, by omega⟩) (Finset.mem_univ _))
      rw [if_pos h]
      refine le_trans ?_ (Finset.le_sup (b := ⟨(1520 * r.val + j.val) % 64, by omega⟩) (Finset.mem_univ _))
      rw [if_pos (by dsimp only; omega)]
    · refine le_trans ?_ (le_max_right _ _)
      refine le_trans ?_ (Finset.le_sup (b := ⟨(1520 * r.val + j.val) / 64, by omega⟩) (Finset.mem_univ _))
      rw [if_pos (by dsimp only; omega)]
      refine le_trans ?_ (Finset.le_sup (b := ⟨(1520 * r.val + j.val) % 64, by omega⟩) (Finset.mem_univ _))
      rw [if_neg (by dsimp only; omega)]

end Cert.Steps
-- ==== Proof.Arrays.lean ====
/-
  What the two passes leave in their results, and what they read, entry by entry.
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.PassA

open Cert.KernelIdeal.Gen
open Idealize.ShloMosaic Idealize.ShloMosaic.TcCoe
open Idealize.ShloMosaic.Pipeline (Dat Cfg Window)

variable {F : FTy → Type} [FloatOps F] [Named F]
variable (V : (c : Dev nD) → Valuation τ sig (Elt F)) (c : Dev nD)

/-- The first pass's index maps: the batch element's for the input and the row maxima, and none for the other two. -/
theorem idxs : ∀ t : Fin cfg0.N, win0_0.index t = ![0, 0, 0] ∧ win0_1.index t = ![t.val, 0, 0] ∧ win0_2.index t = ![0, 0, 0] ∧ win0_3.index t = ![t.val, 0, 0, 0] := by
  decide +kernel

/-- Every point's block of weights is the weights. -/
theorem wBlk_apply (t : Fin cfg0.N) (g : Fin 16) (o : Fin 8) (p : Fin 4) : wBlk V c t (ix3 g o p) = V c main_call0_v1 (ix3 g o p) := by
  unfold wBlk
  blk_ext [(idxs t).1]

/-- Point `t`'s block of the input is batch element `t`. -/
theorem xBlk_apply (t : Fin cfg0.N) (a : Fin 64) (n : Fin 24320) : xBlk V c t (ix3 0 a n) = V c main_arg0 (ix3 ⟨t.val, t.isLt⟩ a n) := by
  unfold xBlk
  blk_ext [(idxs t).2.1]

/-- The row maxima after the pass: batch element `b`'s are point `b`'s. -/
theorem rows_apply (b : Fin 8) (g : Fin 16) (o : Fin 8) (r : Fin 16) :
    (dat V c).arrAt 3 cfg0.N (ix4 b g o r) = Steps.rowsAll neg (wBlk V c ⟨b.val, b.isLt⟩) (xBlk V c ⟨b.val, b.isLt⟩) (ix4 0 g o r) := by
  have h : (dat V c).arrAt 3 cfg0.N = fun i : S8x16x8x16.Idx => Steps.rowsAll neg (wBlk V c ⟨(i 0).val, (i 0).isLt⟩) (xBlk V c ⟨(i 0).val, (i 0).isLt⟩) (ix4 0 (i 1) (i 2) (i 3)) := by
    refine (dat V c).arrAt_eq_of_covers 3 _ (by decide +kernel) fun t hf y => ?_
    have key : ∀ (u : Fin cfg0.N) (i : S1x16x8x16.Idx), u = t → i = y → Steps.rowsAll neg (wBlk V c t) (xBlk V c t) y = Steps.rowsAll neg (wBlk V c u) (xBlk V c u) i := by
      rintro _ _ rfl rfl; rfl
    have hy : (y 0).val < 1 := (y 0).isLt
    refine key _ _ (Fin.ext ?_) ?_
    · blk_simp [(idxs t).2.2.2]
    · blk_ext [(idxs t).2.2.2]
  rw [h]
  rfl

/-- The statistics after the pass: the last point's. -/
theorem stats_apply (i : S16x2x8.Idx) : (dat V c).arrAt 2 cfg0.N i = statsAt V c 7 (by decide) i := by
  have h : (dat V c).arrAt 2 cfg0.N = statsAt V c 7 (by decide) := by
    refine (dat V c).arrAt_eq_of_after_last 2 ⟨7, by decide⟩ (by decide +kernel) _ fun j => ?_
    refine congrArg (statsAt V c 7 (by decide)) (funext fun a => Fin.ext ?_)
    blk_simp [(idxs ⟨7, by decide⟩).2.2.1]
  rw [h]

end Cert.KernelIdeal.PassA

namespace Cert.KernelIdeal.PassB

open Cert.KernelIdeal.Gen
open Idealize.ShloMosaic Idealize.ShloMosaic.TcCoe
open Idealize.ShloMosaic.Pipeline (Dat Cfg Window)

variable {F : FTy → Type} [FloatOps F] [Named F]
variable (V : (c : Dev nD) → Valuation τ sig (Elt F)) (c : Dev nD)

/-- The second pass's index maps: the batch element's for the row maxima and the result, and none for the others. -/
theorem idxs : ∀ t : Fin cfg1.N, win1_0.index t = ![0, 0] ∧ win1_1.index t = ![0, 0] ∧ win1_2.index t = ![t.val, 0, 0] ∧ win1_3.index t = ![0, 0]
    ∧ win1_4.index t = ![0, 0] ∧ win1_5.index t = ![0, 0] ∧ win1_6.index t = ![t.val, 0, 0] := by
  decide +kernel

/-- The result after the pass: batch element `b`'s is point `b`'s. -/
theorem result_apply (b : Fin 8) (ch : Fin 128) (n : Fin 24320) :
    (dat V c).arrAt 6 cfg1.N (ix3 b ch n) = outAt V c ⟨b.val, b.isLt⟩ (ix3 0 ch n) := by
  have h : (dat V c).arrAt 6 cfg1.N = fun i : S8x128x24320.Idx => outAt V c ⟨(i 0).val, (i 0).isLt⟩ (ix3 0 (i 1) (i 2)) := by
    refine (dat V c).arrAt_eq_of_covers 6 _ (by decide +kernel) fun t hf y => ?_
    have key : ∀ (u : Fin cfg1.N) (i : S1x128x24320.Idx), u = t → i = y → outAt V c t y = outAt V c u i := by
      rintro _ _ rfl rfl; rfl
    have hy : (y 0).val < 1 := (y 0).isLt
    refine key _ _ (Fin.ext ?_) ?_
    · blk_simp [(idxs t).2.2.2.2.2.2]
    · blk_ext [(idxs t).2.2.2.2.2.2]
  rw [h]
  rfl

/-- What point `t` reads, entry by entry. -/
theorem blk0_apply (t : Fin cfg1.N) (ch : Fin 128) : (blk V c 0 t : S128x1.Idx → Elt F .f32) (ix2 ch 0) = V c main_call0_v10 (ix2 ch 0) := by
  unfold blk
  blk_ext [(idxs t).1]
/-- The sums of squares, as the second pass reads them. -/
theorem blk1_apply (t : Fin cfg1.N) (ch : Fin 128) : (blk V c 1 t : S128x1.Idx → Elt F .f32) (ix2 ch 0) = V c main_call0_v13 (ix2 ch 0) := by
  unfold blk
  blk_ext [(idxs t).2.1]
/-- The batch element's maxima, as the second pass reads them. -/
theorem blk2_apply (t : Fin cfg1.N) (ch : Fin 128) (r : Fin 16) : (blk V c 2 t : S1x128x16.Idx → Elt F .f32) (ix3 0 ch r) = V c main_call0_v3 (ix3 ⟨t.val, t.isLt⟩ ch r) := by
  unfold blk
  blk_ext [(idxs t).2.2.1]
/-- The scale and the offset, as the second pass reads them. -/
theorem blk3_apply (t : Fin cfg1.N) (ch : Fin 128) (k : Fin 2) : (blk V c 3 t : S128x2.Idx → Elt F .f32) (ix2 ch k) = V c main_call0_v6 (ix2 ch k) := by
  unfold blk
  blk_ext [(idxs t).2.2.2.1]
/-- The bias, as the second pass reads it. -/
theorem blk4_apply (t : Fin cfg1.N) (ch : Fin 128) : (blk V c 4 t : S128x1.Idx → Elt F .f32) (ix2 ch 0) = V c main_call0_v7 (ix2 ch 0) := by
  unfold blk
  blk_ext [(idxs t).2.2.2.2.1]
/-- The 0/1 matrix of the rings, as the second pass reads it. -/
theorem blk5_apply (t : Fin cfg1.N) (r : Fin 16) (n : Fin 24320) : (blk V c 5 t : S16x24320.Idx → Elt F .f32) (ix2 r n) = V c main_call0_v22 (ix2 r n) := by
  unfold blk
  blk_ext [(idxs t).2.2.2.2.2.1]

end Cert.KernelIdeal.PassB

end
-- ==== Proof.Host.lean ====
/-
  What the host's operations around the two passes compute, entry by entry, at the extended reals.
-/
module

public import proofs.«01_k».proof.Proof.Run
public import Idealize.ShloMosaic.Lib.Pointwise
public import Idealize.ShloMosaic.Lib.StableHlo.ReadAt

@[expose] public section

set_option maxRecDepth 16384

noncomputable section

namespace Cert.KernelIdeal.Whole

open Cert.KernelIdeal.Gen
open Idealize.ShloMosaic Idealize.ShloMosaic.TcCoe

variable (m : (ℓ : Loc nD τ sig) → Buf (Elt Ideal) ℓ) (outs : Outs (F := Ideal)) (c : Dev nD)

/-- The weights as the first pass reads them. -/
theorem weights_apply (g : Fin 16) (o : Fin 8) (p : Fin 4) :
    V1 m c main_call0_v1 (ix3 g o p) = m ((c.tc : Thread nD τ).loc main_arg2) (ix3 ⟨g.val * 8 + o.val, by omega⟩ p 0) := by
  unfold V1
  after_reads_at

/-- The input as the first pass reads it. -/
theorem input_eq : V1 m c main_arg0 = m ((c.tc : Thread nD τ).loc main_arg0) := (V1_of m c main_arg0 (by decide)).trans rfl

/-- What the first pass leaves in its results is what the host finds there, -/
theorem V2_stats : V2 m outs c (Proc.tc.devRef main_call0_v2_0) = outs 2 main_call0_v2_0 c := by
  unfold V2
  rw [Function.update_of_ne (StableHlo.devRef_ne_of_ne (by decide) : (Proc.devRef .tc main_call0_v2_0 : DevRef τ sig) ≠ Proc.devRef .tc main_call0_v2_1), Function.update_self]
/-- the row maxima too, -/
theorem V2_rows : V2 m outs c (Proc.tc.devRef main_call0_v2_1) = outs 2 main_call0_v2_1 c := Function.update_self ..
/-- and an argument is as at the start. -/
theorem V2_arg (r : Ref sig .tc) (h : r ∉ ([main_call0_v2_0, main_call0_v2_1] : List (Ref sig .tc))) (h' : r ∉ hostOps0_W) :
    V2 m outs c (Proc.tc.devRef r) = m ((c.tc : Thread nD τ).loc r) :=
  (V2_of m outs c r h).trans ((V1_of m c r h').trans rfl)

/-- The sums and the sums of squares of each channel. -/
theorem sums_apply (ch : Fin 128) :
    V3 m outs c main_call0_v10 (ix2 ch 0) = outs 2 main_call0_v2_0 c (ix3 ⟨ch.val / 8, by omega⟩ 0 ⟨ch.val % 8, by omega⟩) := by
  unfold V3
  after_reads_at
  rw [V2_stats]
/-- The sums of squares of each channel. -/
theorem squares_apply (ch : Fin 128) :
    V3 m outs c main_call0_v13 (ix2 ch 0) = outs 2 main_call0_v2_0 c (ix3 ⟨ch.val / 8, by omega⟩ 1 ⟨ch.val % 8, by omega⟩) := by
  unfold V3
  after_reads_at
  rw [V2_stats]
/-- The row maxima of each channel. -/
theorem maxima_apply (b : Fin 8) (ch : Fin 128) (r : Fin 16) :
    V3 m outs c main_call0_v3 (ix3 b ch r) = outs 2 main_call0_v2_1 c (ix4 b ⟨ch.val / 8, by omega⟩ ⟨ch.val % 8, by omega⟩ r) := by
  unfold V3
  after_reads_at
  rw [V2_rows]
/-- The scale and the offset of each channel, -/
theorem scale_apply (ch : Fin 128) : V3 m outs c main_call0_v6 (ix2 ch 0) = m ((c.tc : Thread nD τ).loc main_arg4) (ix1 ch) := by
  unfold V3
  after_reads_at
  after_reads_at
  rw [V2_arg m outs c main_arg4 (by decide) (by decide)]
/-- The second column of the parameters is the offset. -/
theorem offset_apply (ch : Fin 128) : V3 m outs c main_call0_v6 (ix2 ch 1) = m ((c.tc : Thread nD τ).loc main_arg5) (ix1 ch) := by
  unfold V3
  after_reads_at
  after_reads_at
  rw [V2_arg m outs c main_arg5 (by decide) (by decide)]
/-- and its bias. -/
theorem bias_apply (ch : Fin 128) : V3 m outs c main_call0_v7 (ix2 ch 0) = m ((c.tc : Thread nD τ).loc main_arg3) (ix1 ch) := by
  unfold V3
  after_reads_at
  rw [V2_arg m outs c main_arg3 (by decide) (by decide)]

/-- The ring of a position, as the host's words compute it. -/
theorem ring_word (n : Fin 24320) :
    Scalar.select
          (IntOp.andi
            (IntOp.cmpi CmpIPredicate.ne
              (if BitVec.ofNat 32 n.val = 0 then (0 : BitVec 32) else if (BitVec.ofNat 32 n.val).msb = true then -1 else 1)
              (if (1520#32 : BitVec 32) = 0 then (0 : BitVec 32)
              else if BitVec.msb (1520#32 : BitVec 32) = true then -1 else 1))
            (IntOp.cmpi CmpIPredicate.ne
              (IntOp.remsi ArithUnit.host (BitVec.ofNat 32 n.val) 1520#32) 0#32))
          (IntOp.subi (IntOp.divsi ArithUnit.host (BitVec.ofNat 32 n.val) 1520#32) 1#32)
          (IntOp.divsi ArithUnit.host (BitVec.ofNat 32 n.val) 1520#32) = BitVec.ofNat 32 (n.val / 1520) := by
  revert n
  decide +kernel

/-- The 0/1 matrix: 1 where the position lies in the ring. -/
theorem onehot_apply (r : Fin 16) (n : Fin 24320) :
    V3 m outs c main_call0_v22 (ix2 r n) = (if n.val / 1520 = r.val then (1 : EReal) else 0) := by
  unfold V3
  after_reads_at
  refine (congrArg (fun w => FloatOps.uitofp (F := Ideal) FTy.f32 (IntOp.cmpi CmpIPredicate.eq w (BitVec.ofNat 32 r.val))) (ring_word n)).trans ?_
  have h : IntOp.cmpi CmpIPredicate.eq (BitVec.ofNat 32 (n.val / 1520)) (BitVec.ofNat 32 r.val) = BitVec.ofBool (decide (n.val / 1520 = r.val)) := by
    have h1 : n.val / 1520 < 16 := by omega
    generalize n.val / 1520 = k at h1
    revert r
    interval_cases k <;> decide
  rw [h]
  split <;> rename_i h' <;> simp [h', FloatOps.uitofp]

end Cert.KernelIdeal.Whole

end
-- ==== Proof.Stats.lean ====
/-
  The kernel's result at the extended reals, entry by entry, in the input, the weights, the bias, the scale and the offset.
-/
module

public import proofs.«01_k».proof.Proof.Entries
public import proofs.«01_k».proof.Proof.EntriesB
public import proofs.«01_k».proof.Proof.Arrays
public import proofs.«01_k».proof.Proof.Host
public import proofs.«01_k».proof.Proof.Ends

@[expose] public section

set_option maxRecDepth 16384

noncomputable section

namespace Cert.Steps

open Cert.KernelIdeal
open Idealize.ShloMosaic
open Facts₀ Facts

variable [Facts]
variable (w : S16x8x4.Idx → Elt Ideal .f32) (x : S1x64x24320.Idx → Elt Ideal .f32)

/-- A group's statistics: per output channel the sum, and the sum of the squares. -/
theorem part_apply (g : Fin 16) (k : Fin 2) (o : Fin 8) :
    part w x g (ix2 k o) = if k = 0 then sumOf (acc w x g o) else sumOf (mulf (acc w x g o) (acc w x g o)) := by
  unfold part
  rw [partOf_apply]
  fin_cases o <;> rfl

/-- Within its stored block a statistic keeps its last two coordinates. -/
theorem lowT_eq (g : Fin 16) (k : Fin 2) (o : Fin 8) : lowT (ix3 g k o) = ix3 0 k o := by
  funext a; fin_cases a <;> rfl

/-- Within its stored row a maximum keeps its last coordinate. -/
theorem lowR_eq (g : Fin 16) (o : Fin 8) (r : Fin 16) : lowR (ix4 0 g o r) = ix4 0 0 0 r := by
  funext a; fin_cases a <;> rfl

/-- The first batch element's statistics are the groups' own, -/
theorem first_apply (S : S16x2x8.Idx → Elt Ideal .f32) (g : Fin 16) (k : Fin 2) (o : Fin 8) :
    statAll w x true S (ix3 g k o) = part w x g (ix2 k o) := by
  show shapeCast S1x2x8 (part w x g) shapeCasts_S2x8_S1x2x8 (lowT (ix3 g k o)) = _
  rw [lowT_eq]
  pointwise

/-- and the others' are added to what was there. -/
theorem next_apply (S : S16x2x8.Idx → Elt Ideal .f32) (g : Fin 16) (k : Fin 2) (o : Fin 8) :
    statAll w x false S (ix3 g k o) = (S (ix3 g k o) : EReal) + (part w x g (ix2 k o) : EReal) := by
  show shapeCast S1x2x8 (addf (shapeCast S2x8 (View.ld S (rT g) : Vec Ideal S1x2x8 .f32) shapeCasts_S1x2x8_S2x8 : FVec Ideal S2x8 .f32) (part w x g)) shapeCasts_S2x8_S1x2x8 (lowT (ix3 g k o)) = _
  rw [lowT_eq]
  have h : (View.ld S (rT g) : Vec Ideal S1x2x8 .f32) (ix3 0 k o) = S (ix3 g k o) := by
    refine congrArg S (funext fun a => Fin.ext ?_)
    fin_cases a <;> simp [rT]
  pointwise

/-- A row of maxima as stored. -/
theorem rowsAll_apply (g : Fin 16) (o : Fin 8) (r : Fin 16) : rowsAll (⊥ : EReal) w x (ix4 0 g o r) = rowOf (⊥ : EReal) (acc w x g o) (ix1 r) := by
  show shapeCast S1x1x1x16 (rowOf (⊥ : EReal) (acc w x g o)) shapeCasts_S16_S1x1x1x16 (lowR (ix4 0 g o r)) = _
  rw [lowR_eq]
  pointwise

/-- The sum over rows and columns is the sum over positions. -/
theorem sum_places (f : Fin 24320 → EReal) (a : Fin 64 → Fin 380 → EReal) (h : ∀ n : Fin 24320, a ⟨n.val % 64, by omega⟩ ⟨n.val / 64, by omega⟩ = f n) :
    ∑ c : Fin 64, ∑ q : Fin 380, a c q = ∑ n : Fin 24320, f n := by
  rw [← Fintype.sum_prod_type' (f := a)]
  refine (Fintype.sum_equiv ⟨fun n : Fin 24320 => ((⟨n.val % 64, by omega⟩ : Fin 64), (⟨n.val / 64, by omega⟩ : Fin 380)), fun y => ⟨64 * y.2.val + y.1.val, by omega⟩,
    fun n => Fin.ext (by dsimp only; omega), fun y => Prod.ext (Fin.ext (by dsimp only; omega)) (Fin.ext (by dsimp only; omega))⟩ _ _ fun n => ?_).symm
  exact (h n).symm

end Cert.Steps

end
-- ==== Proof.Result.lean ====
/-
  The kernel's result at the extended reals, entry by entry, in the input, the weights, the bias, the scale and the offset.
-/
module

public import proofs.«01_k».proof.Proof.Stats

@[expose] public section

set_option maxRecDepth 16384

noncomputable section

namespace Cert.KernelIdeal.Whole

open Cert.KernelIdeal Cert.KernelIdeal.Gen
open Idealize.ShloMosaic Idealize.ShloMosaic.TcCoe

/-- The convolution's entry before the bias: four products of weight and input. -/
def product (x : FVec Ideal S8x64x24320 .f32) (W : FVec Ideal S128x4x1 .f32) (k : Fin 8) (ch : Fin 128) (n : Fin 24320) : EReal :=
  ∑ p : Fin 4, W (ix3 ch p 0) * x (ix3 k ⟨n.val % 64, by omega⟩ ⟨380 * (4 * (ch.val / 8) + p.val) + n.val / 64, by omega⟩)

variable (m : (ℓ : Loc nD τ sig) → Buf (Elt Ideal) ℓ) (c : Dev nD)

/-- The arguments as arrays. -/
def argX : FVec Ideal S8x64x24320 .f32 := m ((c.tc : Thread nD τ).loc main_arg0)
/-- The weights. -/
def argW : FVec Ideal S128x4x1 .f32 := m ((c.tc : Thread nD τ).loc main_arg2)
/-- The bias. -/
def argB : FVec Ideal S128 .f32 := m ((c.tc : Thread nD τ).loc main_arg3)
/-- The scale. -/
def argG : FVec Ideal S128 .f32 := m ((c.tc : Thread nD τ).loc main_arg4)
/-- The offset. -/
def argE : FVec Ideal S128 .f32 := m ((c.tc : Thread nD τ).loc main_arg5)

/-- What the first pass accumulates for a channel at a position is that entry. -/
theorem acc_eq (k : Fin 8) (ch : Fin 128) (n : Fin 24320) (t : Fin cfg0.N) (ht : t.val = k.val) :
    (Steps.acc (PassA.wBlk (V1 m) c t) (PassA.xBlk (V1 m) c t) ⟨ch.val / 8, by omega⟩ ⟨ch.val % 8, by omega⟩ (ix2 ⟨n.val % 64, by omega⟩ ⟨n.val / 64, by omega⟩) : EReal)
      = product (argX m c) (argW m c) k ch n := by
  rw [Steps.acc_apply]
  unfold product
  refine Finset.sum_congr rfl fun p _ => ?_
  rw [PassA.wBlk_apply, weights_apply, PassA.xBlk_apply, input_eq]
  refine congrArg₂ (· * ·) (congrArg (argW m c) (congrArg (fun a => ix3 a p 0) (Fin.ext ?_)))
    (congrArg (argX m c) (congrArg₂ (fun a b => ix3 a _ b) (Fin.ext ht) (Fin.ext ?_)))
  · dsimp only; omega
  · dsimp only; omega

/-- The sum of a channel over a batch element, -/
theorem sum_eq (k : Fin 8) (ch : Fin 128) (t : Fin cfg0.N) (ht : t.val = k.val) :
    (Steps.part (PassA.wBlk (V1 m) c t) (PassA.xBlk (V1 m) c t) ⟨ch.val / 8, by omega⟩ (ix2 0 ⟨ch.val % 8, by omega⟩) : EReal)
      = ∑ n, product (argX m c) (argW m c) k ch n := by
  rw [Steps.part_apply, if_pos rfl, Steps.sumOf_apply]
  exact Steps.sum_places _ _ fun n => acc_eq m c k ch n t ht

/-- and the sum of its squares. -/
theorem square_eq (k : Fin 8) (ch : Fin 128) (t : Fin cfg0.N) (ht : t.val = k.val) :
    (Steps.part (PassA.wBlk (V1 m) c t) (PassA.xBlk (V1 m) c t) ⟨ch.val / 8, by omega⟩ (ix2 1 ⟨ch.val % 8, by omega⟩) : EReal)
      = ∑ n, product (argX m c) (argW m c) k ch n * product (argX m c) (argW m c) k ch n := by
  rw [Steps.part_apply, if_neg (by decide), Steps.sumOf_apply]
  exact Steps.sum_places _ _ fun n => congrArg₂ (· * ·) (acc_eq m c k ch n t ht) (acc_eq m c k ch n t ht)

/-- The statistics up to a batch element are the sums up to it. -/
theorem stats_sum (g : Fin 16) (k : Fin 2) (o : Fin 8) : ∀ (n : ℕ) (h : n < cfg0.N),
    (PassA.statsAt (V1 m) c n h (ix3 g k o) : EReal)
      = ∑ t : Fin (n + 1), (Steps.part (PassA.wBlk (V1 m) c ⟨t.val, by omega⟩) (PassA.xBlk (V1 m) c ⟨t.val, by omega⟩) g (ix2 k o) : EReal)
  | 0, h => by
    rw [Fin.sum_univ_one]
    exact Steps.first_apply _ _ _ g k o
  | n + 1, h => by
    rw [Fin.sum_univ_castSucc]
    refine (Steps.next_apply _ _ _ g k o).trans ?_
    rw [stats_sum g k o n (Nat.lt_of_succ_lt h)]
    rfl

/-- The sums that the second pass reads, -/
theorem sums_eq (ch : Fin 128) : (Vmid m c main_call0_v10 (ix2 ch 0) : EReal) = ∑ k, ∑ n, product (argX m c) (argW m c) k ch n := by
  refine (sums_apply m (outs0 m) c ch).trans ?_
  rw [outs0_stats]
  refine (PassA.stats_apply (V1 m) c _).trans ?_
  refine (stats_sum m c _ _ _ 7 (by decide)).trans (Finset.sum_congr rfl fun k _ => ?_)
  exact sum_eq m c k ch _ rfl

/-- the sums of squares, -/
theorem squares_eq (ch : Fin 128) : (Vmid m c main_call0_v13 (ix2 ch 0) : EReal)
    = ∑ k, ∑ n, product (argX m c) (argW m c) k ch n * product (argX m c) (argW m c) k ch n := by
  refine (squares_apply m (outs0 m) c ch).trans ?_
  rw [outs0_stats]
  refine (PassA.stats_apply (V1 m) c _).trans ?_
  refine (stats_sum m c _ _ _ 7 (by decide)).trans (Finset.sum_congr rfl fun k _ => ?_)
  exact square_eq m c k ch _ rfl

/-- The constant that stands for the least number is the bottom element. -/
theorem neg_eq : (PassA.neg : Ideal .f32) = (⊥ : EReal) := IdealRules.named_const.ideal_named_scalar _ _ _ _ rfl

/-- and the maxima. -/
theorem maxima_eq (b : Fin 8) (ch : Fin 128) (r : Fin 16) : (Vmid m c main_call0_v3 (ix3 b ch r) : EReal)
    = Finset.univ.sup fun j : Fin 1520 => product (argX m c) (argW m c) b ch ⟨1520 * r.val + j.val, by omega⟩ := by
  refine (maxima_apply m (outs0 m) c b ch r).trans ?_
  rw [outs0_rows]
  refine (PassA.rows_apply (V1 m) c b _ _ r).trans ?_
  rw [neg_eq]
  refine (Steps.rowsAll_apply _ _ _ _ r).trans ((Steps.rowOf_apply _ r).trans (Finset.sup_congr rfl fun j _ => ?_))
  exact acc_eq m c b ch ⟨1520 * r.val + j.val, by omega⟩ _ rfl

/-- The kernel's result: the maximum of the ring that holds the position, normalised from the sums. -/
theorem result_entry (b : Fin 8) (ch : Fin 128) (n : Fin 24320) : (result m c (ix3 b ch n) : EReal) =
    (Finset.univ.sup fun j : Fin 1520 => product (argX m c) (argW m c) b ch ⟨1520 * (n.val / 1520) + j.val, by omega⟩)
        * PassB.factor1 (∑ k, ∑ n, product (argX m c) (argW m c) k ch n) (∑ k, ∑ n, product (argX m c) (argW m c) k ch n * product (argX m c) (argW m c) k ch n) (argG m c (ix1 ch))
      + PassB.offset1 (∑ k, ∑ n, product (argX m c) (argW m c) k ch n) (∑ k, ∑ n, product (argX m c) (argW m c) k ch n * product (argX m c) (argW m c) k ch n)
        (argB m c (ix1 ch)) (argG m c (ix1 ch)) (argE m c (ix1 ch)) := by
  refine (PassB.result_apply (Vmid m) c b ch n).trans ?_
  unfold PassB.outAt
  rw [PassB.block_apply]
  simp only [PassB.blk0_apply, PassB.blk1_apply, PassB.blk2_apply, PassB.blk3_apply, PassB.blk4_apply, PassB.blk5_apply]
  have hone (r : Fin 16) : (Vmid m c main_call0_v22 (ix2 r n) : EReal) = if n.val / 1520 = r.val then (1 : EReal) else 0 := onehot_apply m (outs0 m) c r n
  have hg : (Vmid m c main_call0_v6 (ix2 ch 0) : EReal) = argG m c (ix1 ch) := scale_apply m (outs0 m) c ch
  have he : (Vmid m c main_call0_v6 (ix2 ch 1) : EReal) = argE m c (ix1 ch) := offset_apply m (outs0 m) c ch
  have hb : (Vmid m c main_call0_v7 (ix2 ch 0) : EReal) = argB m c (ix1 ch) := bias_apply m (outs0 m) c ch
  rw [sums_eq, squares_eq, hg, he, hb]
  rw [Finset.sum_eq_single ⟨n.val / 1520, by omega⟩ (fun r _ hr => ?_) (fun h => absurd (Finset.mem_univ _) h)]
  · rw [hone, if_pos rfl, mul_one, maxima_eq]
  · rw [hone, if_neg (fun h => hr (Fin.ext h.symm)), mul_zero]

end Cert.KernelIdeal.Whole

end
-- ==== Proof.Ref.lean ====
/-
  The reference's result at the extended reals, entry by entry.
-/
module

public import proofs.«01_k».proof.Proof.Gen.ReferenceIdeal.Run
public import Idealize.ShloMosaic.Lib.Pointwise
public import Idealize.ShloMosaic.Lib.KernelVsHost

@[expose] public section

set_option maxRecDepth 16384

noncomputable section

namespace Cert.ReferenceIdeal.Stages

open Cert.ReferenceIdeal
open Idealize.ShloMosaic Idealize.ShloMosaic.TcCoe
open Facts₀ Facts

variable (x : FVec Ideal S8x64x24320 .f32) (W : FVec Ideal S128x4x1 .f32) (b g e : FVec Ideal S128 .f32) (y : FVec Ideal S8x128x24320 .f32)

/-- A number per channel, spread over the batch and the positions. -/
def spread (v : FVec Ideal S1x128x1 .f32) : FVec Ideal S8x128x24320 .f32 := broadcastInDim S8x128x24320 ![0, 1, 2] bcast_S1x128x1_S8x128x24320_0_1_2 v
/-- A number per channel, as an array of three axes. -/
def column (v : FVec Ideal S128 .f32) : FVec Ideal S1x128x1 .f32 := broadcastInDim S1x128x1 ![1] bcast_S128_S1x128x1_1 v
/-- A number, for every channel. -/
def every (v : FVec Ideal S_ .f32) : FVec Ideal S1x128x1 .f32 := broadcastInDim S1x128x1 ![] bcast_S_S1x128x1 v

/-- The grouped convolution with its bias. -/
def conv : FVec Ideal S8x128x24320 .f32 :=
  addf (shapeCast S8x128x24320 (transpose S8x16x8x24320 [2, 0, 1, 3] (Host.dotGeneral dot_S16x8x4_S8x16x4x24320_S16x8x8x24320_2_2_1_03_0_1 none
    (shapeCast S16x8x4 (shapeCast S128x4 W shapeCasts_S128x4x1_S128x4) shapeCasts_S128x4_S16x8x4)
    (shapeCast S8x16x4x24320 (shapeCast S8x64x24320 (transpose S8x24320x64 [0, 2, 1] x transposes_S8x64x24320_S8x24320x64_0_2_1) shapeCasts_S8x24320x64_S8x64x24320) shapeCasts_S8x64x24320_S8x16x4x24320))
    transposes_S16x8x8x24320_S8x16x8x24320_2_0_1_3) shapeCasts_S8x16x8x24320_S8x128x24320) (spread (column b))

/-- The sum over the batch and the positions, per channel. -/
def total : FVec Ideal S1x128x1 .f32 := column (Host.reduceAdd y (constant S_ .f32 0x00000000#32) reducesTo_S8x128x24320_S128_d0_2 h_S_)
/-- The mean, per channel. -/
def mean : FVec Ideal S1x128x1 .f32 := Host.divf (total y) (every (constant S_ .f32 0x483E0000#32))
/-- The number of entries of a channel, less the zero degrees of freedom that the variance takes off. -/
def count : FVec Ideal S_ .f32 := subf (constant S_ .f32 0x483E0000#32) (sitofp .f32 (constantI S_ 32 0#32))
/-- The variance, per channel. -/
def var : FVec Ideal S1x128x1 .f32 :=
  select (broadcastInDim S1x128x1 ![] bcast_S_S1x128x1 (cmpf .ogt count (constant S_ .f32 0x00000000#32)))
    (Host.divf (total (mulf (subf y (spread (mean y))) (subf y (spread (mean y))))) (every count)) (every (id (constant S_ .f32 0x7FC00000#32)))
/-- The normalised entries, scaled and offset. -/
def norm : FVec Ideal S8x128x24320 .f32 :=
  addf (mulf (Host.divf (subf y (spread (mean y))) (spread (Host.sqrt (addf (var y) (every (constant S_ .f32 0x3727C5AC#32)))))) (spread (column g))) (spread (column e))
/-- The maximum over each ring, at each position of the ring. -/
def pool : FVec Ideal S8x128x24320 .f32 :=
  shapeCast S8x128x24320 (broadcastInDim S8x128x16x1520 ![0, 1, 2] bcast_S8x128x16_S8x128x16x1520_0_1_2
    (Host.reduce FloatOps.maximumf (shapeCast S8x128x16x1520 y shapeCasts_S8x128x24320_S8x128x16x1520) (constant S_ .f32 0xFF800000#32) reducesTo_S8x128x16x1520_S8x128x16_d3 h_S_)) shapeCasts_S8x128x16x1520_S8x128x24320

/-- The reference's result is the four stages composed. -/
theorem result_eq (m : (ℓ : Loc nD τ sig) → Buf (Elt Ideal) ℓ) (c : Dev nD) :
    Value.res_main_v32 m c = pool (norm (m ((c.tc : Thread nD τ).loc main_arg4)) (m ((c.tc : Thread nD τ).loc main_arg5))
      (conv (m ((c.tc : Thread nD τ).loc main_arg0)) (m ((c.tc : Thread nD τ).loc main_arg2)) (m ((c.tc : Thread nD τ).loc main_arg3)))) := by
  rfl

/-- The word `0x483E0000` is the number 194560 = 8·24320. -/
theorem entries : Ideal.ofBits .f32 0x483E0000#32 = ((194560 : ℝ) : EReal) := by
  simp [Ideal.ofBits, Ideal.ieee]
  rw [← EReal.coe_mul]
  norm_num

/-- The convolution's entry: four products of weight and input, plus the bias. -/
theorem conv_apply (k : Fin 8) (ch : Fin 128) (n : Fin 24320) : conv x W b (ix3 k ch n) =
    (∑ p : Fin 4, W (ix3 ch p 0) * x (ix3 k ⟨n.val % 64, by omega⟩ ⟨380 * (4 * (ch.val / 8) + p.val) + n.val / 64, by omega⟩)) + b (ix1 ch) := by
  unfold conv spread column
  pointwise
  refine congrArg (· + b (ix1 ch)) (Finset.sum_congr rfl fun p _ => congrArg (W (ix3 ch p 0) * ·) (congrArg x (congrArg (ix3 k _) (Fin.ext ?_))))
  dsimp only
  omega

/-- The sum of a channel over the batch and the positions. -/
theorem total_apply (ch : Fin 128) : total y (ix3 0 ch 0) = ∑ k : Fin 8, ∑ n : Fin 24320, y (ix3 k ch n) := by
  unfold total column
  pointwise
  unfold Ideal.hostReduceAdd
  rw [zero_add, Finset.sum_filter, sum_idx3]
  refine Finset.sum_congr rfl fun k _ => ?_
  have hd (c : Fin 128) (n : Fin 24320) : (reducesTo_S8x128x24320_S128_d0_2.drop (ix3 k c n) = ix1 ch) ↔ c = ch := by
    have h0 : (reducesTo_S8x128x24320_S128_d0_2.drop (ix3 k c n) 0 : Nat) = c.val :=
      Shape.ReducesTo.drop_apply_val_of_eq _ (ix3 k c n) 0 1
    constructor
    · intro h
      rw [h] at h0
      exact Fin.ext h0.symm
    · intro h
      funext a
      have ha : a = 0 := Subsingleton.elim (α := Fin 1) a 0
      subst ha
      exact Fin.ext (h0.trans (congrArg Fin.val h))
  simp only [hd]
  rw [Finset.sum_eq_single ch (fun c _ hc => by simp [hc]) (fun h => absurd (Finset.mem_univ _) h)]
  simp

/-- The mean of a channel. -/
theorem mean_apply (ch : Fin 128) : mean y (ix3 0 ch 0) = Ideal.div (∑ k : Fin 8, ∑ n : Fin 24320, y (ix3 k ch n)) ((194560 : ℝ) : EReal) := by
  rw [← total_apply, ← entries]
  unfold mean every
  pointwise

/-- The maximum over the ring that holds a position. -/
theorem pool_apply (k : Fin 8) (ch : Fin 128) (n : Fin 24320) : pool y (ix3 k ch n) =
    Finset.univ.sup fun j : Fin 1520 => (y (ix3 k ch ⟨1520 * (n.val / 1520) + j.val, by omega⟩) : EReal) := by
  unfold pool
  pointwise
  have hn : Ideal.ofBits .f32 0xFF800000#32 = (⊥ : EReal) := by simp [Ideal.ofBits, Ideal.ieee]
  simp only [hn]
  have hf {ι : Type} [Fintype ι] (f : ι → EReal) : Finset.fold max (⊥ : EReal) f Finset.univ = Finset.univ.sup f := rfl
  rw [hf]
  refine Finset.sup_congr rfl fun j _ => ?_
  have hj : n.val / 1520 * 1520 + j.val = 1520 * (n.val / 1520) + j.val := by omega
  simp only [hj]

/-- The divisor of the variance. -/
theorem count_apply : count ix0 = ((194560 : ℝ) : EReal) := by
  have h0 : (FloatOps.sitofp .f32 0#32 : Ideal .f32) = (0 : EReal) := sitofp_zero
  unfold count
  show (Ideal.ofBits .f32 0x483E0000#32 - (FloatOps.sitofp .f32 0#32 : Ideal .f32) : EReal) = _
  rw [h0, entries]
  exact sub_zero _

/-- The variance of a channel: the mean of the squared distances from the mean. -/
theorem var_apply (ch : Fin 128) : var y (ix3 0 ch 0) =
    Ideal.div (∑ k : Fin 8, ∑ n : Fin 24320, (y (ix3 k ch n) - mean y (ix3 0 ch 0)) * (y (ix3 k ch n) - mean y (ix3 0 ch 0))) ((194560 : ℝ) : EReal) := by
  have ht := total_apply (mulf (subf y (spread (mean y))) (subf y (spread (mean y)))) ch
  unfold var every
  pointwise
  rw [count_apply, if_pos (by exact_mod_cast (by norm_num : (0 : ℝ) < 194560)), ht]
  unfold spread
  pointwise

/-- The normalised entry. -/
theorem norm_apply (k : Fin 8) (ch : Fin 128) (n : Fin 24320) : norm g e y (ix3 k ch n) =
    Ideal.div (y (ix3 k ch n) - mean y (ix3 0 ch 0)) (Ideal.sqrt (var y (ix3 0 ch 0) + Ideal.ofBits .f32 0x3727C5AC#32)) * g (ix1 ch) + e (ix1 ch) := by
  unfold norm every spread column
  pointwise

end Cert.ReferenceIdeal.Stages

end
-- ==== Proof.Value.lean ====
/-
  The kernel's result is the reference's, at the extended reals, where the input, the weights, the bias and the scale are
  finite and no scale is negative.
-/
module

public import proofs.«01_k».proof.Defs
public import proofs.«01_k».proof.Proof.Norm
public import proofs.«01_k».proof.Proof.Result
public import proofs.«01_k».proof.Proof.Ref

@[expose] public section

set_option maxRecDepth 16384

noncomputable section

namespace Cert.Value

open Idealize.ShloMosaic Idealize.ShloMosaic.TcCoe
open Cert.KernelIdeal (S8x64x24320 S128x4x1 S128 S8x128x24320)

/-- The shape relations of the precondition's operations. -/
instance facts_pre : Cert.Pre_pre.Facts where
  bcast_S_S8x64x24320 := by decide
  bcast_S_S128x4x1 := by decide
  bcast_S_S128 := by decide

/-- The word of the infinity is the top element. -/
theorem inf_word : Ideal.ofBits .f32 0x7F800000#32 = (⊤ : EReal) := by simp [Ideal.ofBits, Ideal.ieee]

/-- An extended real whose absolute value is below the top is a real. -/
theorem real_of_abs (a : EReal) (h : max a (-a) < ⊤) : ∃ r : ℝ, a = (r : EReal) := by
  induction a with
  | bot => exact absurd h (by simp)
  | top => exact absurd h (by simp)
  | coe r => exact ⟨r, rfl⟩

/-- An extended real from zero up and below the top is a real that is not negative. -/
theorem real_of_range (a : EReal) (h0 : 0 ≤ a) (h : a < ⊤) : ∃ r : ℝ, 0 ≤ r ∧ a = (r : EReal) := by
  induction a with
  | bot => exact absurd h0 (by simp)
  | top => exact absurd h (by simp)
  | coe r => exact ⟨r, EReal.coe_nonneg.mp h0, rfl⟩

/-- What a comparison that came out 1 says. -/
theorem lt_of_word (a b : EReal) (h : Ideal.cmp .olt a b = 1#1) : a < b := by
  by_contra hn
  simp [Ideal.cmp, hn] at h

/-- The same for the comparison that admits equality. -/
theorem le_of_word (a b : EReal) (h : Ideal.cmp .oge a b = 1#1) : b ≤ a := by
  by_contra hn
  simp [Ideal.cmp, hn] at h

variable (m : (ℓ : Loc Cert.KernelIdeal.nD Cert.KernelIdeal.τ Cert.KernelIdeal.sig) → Buf (Elt Ideal) ℓ)

/-- What the precondition says of the arguments. -/
theorem pre_reads (h : Cert.Pre_KernelIdeal_pre m) (c : Dev Cert.KernelIdeal.nD) :
    (∀ i, ∃ r : ℝ, Cert.KernelIdeal.Whole.argX m c i = (r : EReal)) ∧ (∀ i, ∃ r : ℝ, Cert.KernelIdeal.Whole.argW m c i = (r : EReal))
      ∧ (∀ i, ∃ r : ℝ, Cert.KernelIdeal.Whole.argB m c i = (r : EReal)) ∧ ∀ i, ∃ r : ℝ, 0 ≤ r ∧ Cert.KernelIdeal.Whole.argG m c i = (r : EReal) := by
  obtain ⟨h1, h2, h3, h4⟩ := h c
  dsimp only [Cert.Pre_pre.fn] at h1 h2 h3 h4
  refine ⟨fun i => ?_, fun i => ?_, fun i => ?_, fun i => ?_⟩
  · have e : Ideal.cmp .olt (max (Cert.KernelIdeal.Whole.argX m c i) (-(Cert.KernelIdeal.Whole.argX m c i))) (Ideal.ofBits .f32 0x7F800000#32) = 1#1 := congrFun h1 i
    rw [inf_word] at e
    exact real_of_abs _ (lt_of_word _ _ e)
  · have e : Ideal.cmp .olt (max (Cert.KernelIdeal.Whole.argW m c i) (-(Cert.KernelIdeal.Whole.argW m c i))) (Ideal.ofBits .f32 0x7F800000#32) = 1#1 := congrFun h2 i
    rw [inf_word] at e
    exact real_of_abs _ (lt_of_word _ _ e)
  · have e : Ideal.cmp .olt (max (Cert.KernelIdeal.Whole.argB m c i) (-(Cert.KernelIdeal.Whole.argB m c i))) (Ideal.ofBits .f32 0x7F800000#32) = 1#1 := congrFun h3 i
    rw [inf_word] at e
    exact real_of_abs _ (lt_of_word _ _ e)
  · have e : IntOp.andi (Ideal.cmp .oge (Cert.KernelIdeal.Whole.argG m c i) (Ideal.ofBits .f32 0x00000000#32)) (Ideal.cmp .olt (Cert.KernelIdeal.Whole.argG m c i) (Ideal.ofBits .f32 0x7F800000#32)) = 1#1 := congrFun h4 i
    obtain ⟨e1, e2⟩ := IntOp.andi_eq_one.1 e
    rw [inf_word] at e2
    have h0 : (0 : EReal) ≤ Cert.KernelIdeal.Whole.argG m c i := by
      have := le_of_word _ _ e1
      rwa [Ideal.ofBits_zero_f32] at this
    have ht := lt_of_word _ _ e2
    exact real_of_range _ h0 ht

/-- The entries of finite inputs and weights are finite. -/
theorem product_real (x : FVec Ideal S8x64x24320 .f32) (W : FVec Ideal S128x4x1 .f32) (hx : ∀ i, ∃ r : ℝ, x i = (r : EReal)) (hW : ∀ i, ∃ r : ℝ, W i = (r : EReal))
    (k : Fin 8) (ch : Fin 128) (n : Fin 24320) : ∃ r : ℝ, Cert.KernelIdeal.Whole.product x W k ch n = (r : EReal) := by
  choose xr hx using hx
  choose Wr hW using hW
  refine ⟨∑ p : Fin 4, Wr (ix3 ch p 0) * xr (ix3 k ⟨n.val % 64, by omega⟩ ⟨380 * (4 * (ch.val / 8) + p.val) + n.val / 64, by omega⟩), ?_⟩
  rw [← Cert.Norm.coe_sum]
  unfold Cert.KernelIdeal.Whole.product
  exact Finset.sum_congr rfl fun p _ => by rw [hx, hW, EReal.coe_mul]

/-- The two results agree. -/
theorem result_eq (c : Dev Cert.KernelIdeal.nD)
    (hx : ∀ i, ∃ r : ℝ, Cert.KernelIdeal.Whole.argX m c i = (r : EReal)) (hW : ∀ i, ∃ r : ℝ, Cert.KernelIdeal.Whole.argW m c i = (r : EReal))
    (hb : ∀ i, ∃ r : ℝ, Cert.KernelIdeal.Whole.argB m c i = (r : EReal)) (hg : ∀ i, ∃ r : ℝ, 0 ≤ r ∧ Cert.KernelIdeal.Whole.argG m c i = (r : EReal)) :
    (Cert.KernelIdeal.Whole.result m c : FVec Ideal S8x128x24320 .f32)
      = Cert.ReferenceIdeal.Stages.pool (Cert.ReferenceIdeal.Stages.norm (Cert.KernelIdeal.Whole.argG m c) (Cert.KernelIdeal.Whole.argE m c)
        (Cert.ReferenceIdeal.Stages.conv (Cert.KernelIdeal.Whole.argX m c) (Cert.KernelIdeal.Whole.argW m c) (Cert.KernelIdeal.Whole.argB m c))) := by
  funext i
  obtain ⟨b, ch, n, rfl⟩ : ∃ (b : Fin 8) (ch : Fin 128) (n : Fin 24320), i = ix3 b ch n := ⟨i 0, i 1, i 2, eq_ix3 i⟩
  refine (Cert.KernelIdeal.Whole.result_entry m c b ch n).trans ?_
  rw [Cert.ReferenceIdeal.Stages.pool_apply]
  simp only [Cert.ReferenceIdeal.Stages.norm_apply, Cert.ReferenceIdeal.Stages.var_apply, Cert.ReferenceIdeal.Stages.mean_apply]
  have hc : ∀ (k : Fin 8) (n : Fin 24320), (Cert.ReferenceIdeal.Stages.conv (Cert.KernelIdeal.Whole.argX m c) (Cert.KernelIdeal.Whole.argW m c) (Cert.KernelIdeal.Whole.argB m c) (ix3 k ch n) : EReal)
      = Cert.KernelIdeal.Whole.product (Cert.KernelIdeal.Whole.argX m c) (Cert.KernelIdeal.Whole.argW m c) k ch n + Cert.KernelIdeal.Whole.argB m c (ix1 ch) :=
    fun k n => Cert.ReferenceIdeal.Stages.conv_apply _ _ _ k ch n
  simp only [hc]
  have hu := fun (k : Fin 8) (n : Fin 24320) => product_real _ _ hx hW k ch n
  choose u hu using hu
  obtain ⟨br, hbr⟩ := hb (ix1 ch)
  obtain ⟨gr, hg0, hgr⟩ := hg (ix1 ch)
  simp only [hu, hbr, hgr]
  have hN : (Fintype.card (Fin 8 × Fin 24320) : ℝ) = 194560 := by
    rw [Fintype.card_prod, Fintype.card_fin, Fintype.card_fin]; norm_num
  have key := Cert.Norm.ring_eq hN (fun y : Fin 8 × Fin 24320 => u y.1 y.2) (fun j : Fin 1520 => (b, (⟨1520 * (n.val / 1520) + j.val, by omega⟩ : Fin 24320))) br gr hg0
    (Cert.KernelIdeal.Whole.argE m c (ix1 ch))
  simp only [Fintype.sum_prod_type] at key
  exact key

end Cert.Value

end
-- ==== Proof.lean ====
/-
  The claims about the kernel, from the modules that prove them.
-/
module

public import proofs.«01_k».proof.Defs
public import proofs.«01_k».proof.Proof.BodyA
public import proofs.«01_k».proof.Proof.BodyAK
public import proofs.«01_k».proof.Proof.Run
public import proofs.«01_k».proof.Proof.RunK
public import proofs.«01_k».proof.Proof.Ends
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel terminates, leaves its arguments unchanged and every semaphore counter at zero. -/
theorem frame_kernel : Cert.quiescent_Kernel := fun m ρ _ =>
  Cert.Kernel.Whole.frame (F := Bits) m (fun i arg1 harg1 arg2 harg2 arg3 harg3 arg4 harg4 arg5 harg5 =>
    Cert.Kernel.PassA.body_eq i arg1 harg1 arg2 harg2 arg3 harg3 arg4 harg4 arg5 harg5) ρ

/-- The printed body of the idealized kernel's first pass is its sixteen group steps. -/
theorem body_ideal : Cert.KernelIdeal.PassA.BodyEq Ideal := fun i arg1 harg1 arg2 harg2 arg3 harg3 arg4 harg4 arg5 harg5 =>
  Cert.KernelIdeal.PassA.body_eq i arg1 harg1 arg2 harg2 arg3 harg3 arg4 harg4 arg5 harg5

/-- So does the idealized kernel. -/
theorem frame_ideal : Cert.quiescent_KernelIdeal := fun m ρ _ => Cert.KernelIdeal.Whole.frame (F := Ideal) m body_ideal ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the kernel, with its two named constants at the values that they stand for. -/
theorem preserves : Cert.preserves_Kernel_KernelIdeal :=
  ⟨IdealRules.named_const.statement Cert.KernelIdeal.κ "neg" .f32 0xFF61B1E6#32 ⊥ rfl,
    IdealRules.named_const.statement Cert.KernelIdeal.κ "inv_n" .f32 0x36AC7692#32 ((1 / 194560 : ℝ) : EReal) rfl⟩

/-- From memories with the same arguments, the idealized kernel and the reference end with the same result, where the
    precondition holds. -/
theorem algebraic : Cert.algebraic_KernelIdeal_ReferenceIdeal_pre_pre (hPre_pre := Cert.Value.facts_pre) := fun m g m' g' hp hargs => by
  refine ⟨fun c => Cert.KernelIdeal.Whole.result m c, Cert.KernelIdeal.Whole.ends m body_ideal g,
    (θ_run Cert.ReferenceIdeal.defs _ _).mono (fun r h c => ⟨(h c).1.trans ?_, (h c).2⟩) (Cert.ReferenceIdeal.Value.run (F := Ideal) m' g')⟩
  obtain ⟨h0, -, h2, h3, h4, h5⟩ := hargs c
  obtain ⟨hx, hW, hb, hg⟩ := Cert.Value.pre_reads m hp c
  rw [Cert.ReferenceIdeal.Stages.result_eq, h0, h2, h3, h4, h5]
  exact (Cert.Value.result_eq m c hx hW hb hg).symm

/-- Everything claimed. -/
theorem claim : Cert.Claim := ⟨Cert.Kernel.Gen.facts, Cert.KernelIdeal.Gen.facts, Cert.ReferenceIdeal.Gen.facts, Cert.Value.facts_pre,
  frame_kernel, frame_ideal, fun m ρ _ => frame_ideal m ρ trivial, frame_reference, fun m ρ _ => frame_reference m ρ trivial, preserves, algebraic⟩

end Cert.Proof

end
